-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S512x1024 : Shape := ⟨2, ![512, 1024]⟩
abbrev S7x1x1024 : Shape := ⟨3, ![7, 1, 1024]⟩
abbrev S7 : Shape := ⟨1, ![7]⟩
abbrev S1024 : Shape := ⟨1, ![1024]⟩
abbrev S_ : Shape := ⟨0, ![]⟩
abbrev S1 : Shape := ⟨1, ![1]⟩
abbrev S1x1x1024 : Shape := ⟨3, ![1, 1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S7x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_4 : BitVec 32 := 0#32
  let v12 : BitVec 1 := Scalar.cmpi .ne v11 c0_i32_4
  v12

def k0_dev1 (d13 : Dev nD) : Nat :=
  let c0_i32_14 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c1_i32_5 : BitVec 32 := 1#32
  let v17 : BitVec 32 := Scalar.addi v15 c1_i32_5
  let c8_i32_6 : BitVec 32 := 8#32
  let c0_i32_7 : BitVec 32 := 0#32
  let v18 : BitVec 1 := Scalar.cmpi .eq c8_i32_6 c0_i32_7
  let c1_i32_8 : BitVec 32 := 1#32
  let v19 : BitVec 32 := Scalar.select v18 c1_i32_8 c8_i32_6
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let c1_i32_13 : BitVec 32 := 1#32
  let v28 : BitVec 32 := Scalar.muli v27 c1_i32_13
  let v29 : BitVec 32 := Scalar.addi c0_i32_14 v28
  v29.toNat
def k0_dev2 (d13 : Dev nD) : Nat :=
  let c0_i32_23 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c2_i32 : BitVec 32 := 2#32
  let v30 : BitVec 32 := Scalar.addi v15 c2_i32
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_22 : BitVec 32 := 1#32
  let v41 : BitVec 32 := Scalar.muli v40 c1_i32_22
  let v42 : BitVec 32 := Scalar.addi c0_i32_23 v41
  v42.toNat
def k0_dev3 (d13 : Dev nD) : Nat :=
  let c0_i32_32 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c3_i32 : BitVec 32 := 3#32
  let v43 : BitVec 32 := Scalar.addi v15 c3_i32
  let c8_i32_24 : BitVec 32 := 8#32
  let c0_i32_25 : BitVec 32 := 0#32
  let v44 : BitVec 1 := Scalar.cmpi .eq c8_i32_24 c0_i32_25
  let c1_i32_26 : BitVec 32 := 1#32
  let v45 : BitVec 32 := Scalar.select v44 c1_i32_26 c8_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c1_i32_31 : BitVec 32 := 1#32
  let v54 : BitVec 32 := Scalar.muli v53 c1_i32_31
  let v55 : BitVec 32 := Scalar.addi c0_i32_32 v54
  v55.toNat
def k0_dev4 (d13 : Dev nD) : Nat :=
  let c0_i32_41 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c4_i32 : BitVec 32 := 4#32
  let v56 : BitVec 32 := Scalar.addi v15 c4_i32
  let c8_i32_33 : BitVec 32 := 8#32
  let c0_i32_34 : BitVec 32 := 0#32
  let v57 : BitVec 1 := Scalar.cmpi .eq c8_i32_33 c0_i32_34
  let c1_i32_35 : BitVec 32 := 1#32
  let v58 : BitVec 32 := Scalar.select v57 c1_i32_35 c8_i32_33
  let v59 : BitVec 32 := Scalar.remsi v56 v58
  let c0_i32_37 : BitVec 32 := 0#32
  let v61 : BitVec 1 := Scalar.cmpi .slt v59 c0_i32_37
  let c0_i32_38 : BitVec 32 := 0#32
  let v62 : BitVec 1 := Scalar.cmpi .slt v58 c0_i32_38
  let v63 : BitVec 1 := Scalar.xori v61 v62
  let c0_i32_36 : BitVec 32 := 0#32
  let v60 : BitVec 1 := Scalar.cmpi .ne v59 c0_i32_36
  let v64 : BitVec 1 := Scalar.andi v63 v60
  let v65 : BitVec 32 := Scalar.addi v59 v58
  let v66 : BitVec 32 := Scalar.select v64 v65 v59
  let c1_i32_40 : BitVec 32 := 1#32
  let v67 : BitVec 32 := Scalar.muli v66 c1_i32_40
  let v68 : BitVec 32 := Scalar.addi c0_i32_41 v67
  v68.toNat
def k0_dev5 (d13 : Dev nD) : Nat :=
  let c0_i32_50 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c5_i32 : BitVec 32 := 5#32
  let v69 : BitVec 32 := Scalar.addi v15 c5_i32
  let c8_i32_42 : BitVec 32 := 8#32
  let c0_i32_43 : BitVec 32 := 0#32
  let v70 : BitVec 1 := Scalar.cmpi .eq c8_i32_42 c0_i32_43
  let c1_i32_44 : BitVec 32 := 1#32
  let v71 : BitVec 32 := Scalar.select v70 c1_i32_44 c8_i32_42
  let v72 : BitVec 32 := Scalar.remsi v69 v71
  let c0_i32_46 : BitVec 32 := 0#32
  let v74 : BitVec 1 := Scalar.cmpi .slt v72 c0_i32_46
  let c0_i32_47 : BitVec 32 := 0#32
  let v75 : BitVec 1 := Scalar.cmpi .slt v71 c0_i32_47
  let v76 : BitVec 1 := Scalar.xori v74 v75
  let c0_i32_45 : BitVec 32 := 0#32
  let v73 : BitVec 1 := Scalar.cmpi .ne v72 c0_i32_45
  let v77 : BitVec 1 := Scalar.andi v76 v73
  let v78 : BitVec 32 := Scalar.addi v72 v71
  let v79 : BitVec 32 := Scalar.select v77 v78 v72
  let c1_i32_49 : BitVec 32 := 1#32
  let v80 : BitVec 32 := Scalar.muli v79 c1_i32_49
  let v81 : BitVec 32 := Scalar.addi c0_i32_50 v80
  v81.toNat
def k0_dev6 (d13 : Dev nD) : Nat :=
  let c0_i32_59 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c6_i32 : BitVec 32 := 6#32
  let v82 : BitVec 32 := Scalar.addi v15 c6_i32
  let c8_i32_51 : BitVec 32 := 8#32
  let c0_i32_52 : BitVec 32 := 0#32
  let v83 : BitVec 1 := Scalar.cmpi .eq c8_i32_51 c0_i32_52
  let c1_i32_53 : BitVec 32 := 1#32
  let v84 : BitVec 32 := Scalar.select v83 c1_i32_53 c8_i32_51
  let v85 : BitVec 32 := Scalar.remsi v82 v84
  let c0_i32_55 : BitVec 32 := 0#32
  let v87 : BitVec 1 := Scalar.cmpi .slt v85 c0_i32_55
  let c0_i32_56 : BitVec 32 := 0#32
  let v88 : BitVec 1 := Scalar.cmpi .slt v84 c0_i32_56
  let v89 : BitVec 1 := Scalar.xori v87 v88
  let c0_i32_54 : BitVec 32 := 0#32
  let v86 : BitVec 1 := Scalar.cmpi .ne v85 c0_i32_54
  let v90 : BitVec 1 := Scalar.andi v89 v86
  let v91 : BitVec 32 := Scalar.addi v85 v84
  let v92 : BitVec 32 := Scalar.select v90 v91 v85
  let c1_i32_58 : BitVec 32 := 1#32
  let v93 : BitVec 32 := Scalar.muli v92 c1_i32_58
  let v94 : BitVec 32 := Scalar.addi c0_i32_59 v93
  v94.toNat
def k0_dev7 (d13 : Dev nD) : Nat :=
  let c0_i32_69 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c7_i32_60 : BitVec 32 := 7#32
  let v95 : BitVec 32 := Scalar.addi v15 c7_i32_60
  let c8_i32_61 : BitVec 32 := 8#32
  let c0_i32_62 : BitVec 32 := 0#32
  let v96 : BitVec 1 := Scalar.cmpi .eq c8_i32_61 c0_i32_62
  let c1_i32_63 : BitVec 32 := 1#32
  let v97 : BitVec 32 := Scalar.select v96 c1_i32_63 c8_i32_61
  let v98 : BitVec 32 := Scalar.remsi v95 v97
  let c0_i32_65 : BitVec 32 := 0#32
  let v100 : BitVec 1 := Scalar.cmpi .slt v98 c0_i32_65
  let c0_i32_66 : BitVec 32 := 0#32
  let v101 : BitVec 1 := Scalar.cmpi .slt v97 c0_i32_66
  let v102 : BitVec 1 := Scalar.xori v100 v101
  let c0_i32_64 : BitVec 32 := 0#32
  let v99 : BitVec 1 := Scalar.cmpi .ne v98 c0_i32_64
  let v103 : BitVec 1 := Scalar.andi v102 v99
  let v104 : BitVec 32 := Scalar.addi v98 v97
  let v105 : BitVec 32 := Scalar.select v103 v104 v98
  let c1_i32_68 : BitVec 32 := 1#32
  let v106 : BitVec 32 := Scalar.muli v105 c1_i32_68
  let v107 : BitVec 32 := Scalar.addi c0_i32_69 v106
  v107.toNat
def k0_dev8 (d13 : Dev nD) : Nat :=
  let c0_i32_82 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c1_i32_71 : BitVec 32 := 1#32
  let v108 : BitVec 32 := Scalar.addi v15 c1_i32_71
  let c8_i32_72 : BitVec 32 := 8#32
  let c0_i32_73 : BitVec 32 := 0#32
  let v109 : BitVec 1 := Scalar.cmpi .eq c8_i32_72 c0_i32_73
  let c1_i32_74 : BitVec 32 := 1#32
  let v110 : BitVec 32 := Scalar.select v109 c1_i32_74 c8_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_81 : BitVec 32 := 1#32
  let v119 : BitVec 32 := Scalar.muli v118 c1_i32_81
  let v120 : BitVec 32 := Scalar.addi c0_i32_82 v119
  v120.toNat
def k0_dev9 (d13 : Dev nD) : Nat :=
  let c0_i32_96 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c2_i32_85 : BitVec 32 := 2#32
  let v127 : BitVec 32 := Scalar.addi v15 c2_i32_85
  let c8_i32_86 : BitVec 32 := 8#32
  let c0_i32_87 : BitVec 32 := 0#32
  let v128 : BitVec 1 := Scalar.cmpi .eq c8_i32_86 c0_i32_87
  let c1_i32_88 : BitVec 32 := 1#32
  let v129 : BitVec 32 := Scalar.select v128 c1_i32_88 c8_i32_86
  let v130 : BitVec 32 := Scalar.remsi v127 v129
  let c0_i32_90 : BitVec 32 := 0#32
  let v132 : BitVec 1 := Scalar.cmpi .slt v130 c0_i32_90
  let c0_i32_91 : BitVec 32 := 0#32
  let v133 : BitVec 1 := Scalar.cmpi .slt v129 c0_i32_91
  let v134 : BitVec 1 := Scalar.xori v132 v133
  let c0_i32_89 : BitVec 32 := 0#32
  let v131 : BitVec 1 := Scalar.cmpi .ne v130 c0_i32_89
  let v135 : BitVec 1 := Scalar.andi v134 v131
  let v136 : BitVec 32 := Scalar.addi v130 v129
  let v137 : BitVec 32 := Scalar.select v135 v136 v130
  let c1_i32_95 : BitVec 32 := 1#32
  let v138 : BitVec 32 := Scalar.muli v137 c1_i32_95
  let v139 : BitVec 32 := Scalar.addi c0_i32_96 v138
  v139.toNat
def k0_dev10 (d13 : Dev nD) : Nat :=
  let c0_i32_110 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c3_i32_99 : BitVec 32 := 3#32
  let v146 : BitVec 32 := Scalar.addi v15 c3_i32_99
  let c8_i32_100 : BitVec 32 := 8#32
  let c0_i32_101 : BitVec 32 := 0#32
  let v147 : BitVec 1 := Scalar.cmpi .eq c8_i32_100 c0_i32_101
  let c1_i32_102 : BitVec 32 := 1#32
  let v148 : BitVec 32 := Scalar.select v147 c1_i32_102 c8_i32_100
  let v149 : BitVec 32 := Scalar.remsi v146 v148
  let c0_i32_104 : BitVec 32 := 0#32
  let v151 : BitVec 1 := Scalar.cmpi .slt v149 c0_i32_104
  let c0_i32_105 : BitVec 32 := 0#32
  let v152 : BitVec 1 := Scalar.cmpi .slt v148 c0_i32_105
  let v153 : BitVec 1 := Scalar.xori v151 v152
  let c0_i32_103 : BitVec 32 := 0#32
  let v150 : BitVec 1 := Scalar.cmpi .ne v149 c0_i32_103
  let v154 : BitVec 1 := Scalar.andi v153 v150
  let v155 : BitVec 32 := Scalar.addi v149 v148
  let v156 : BitVec 32 := Scalar.select v154 v155 v149
  let c1_i32_109 : BitVec 32 := 1#32
  let v157 : BitVec 32 := Scalar.muli v156 c1_i32_109
  let v158 : BitVec 32 := Scalar.addi c0_i32_110 v157
  v158.toNat
def k0_dev11 (d13 : Dev nD) : Nat :=
  let c0_i32_124 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c4_i32_113 : BitVec 32 := 4#32
  let v165 : BitVec 32 := Scalar.addi v15 c4_i32_113
  let c8_i32_114 : BitVec 32 := 8#32
  let c0_i32_115 : BitVec 32 := 0#32
  let v166 : BitVec 1 := Scalar.cmpi .eq c8_i32_114 c0_i32_115
  let c1_i32_116 : BitVec 32 := 1#32
  let v167 : BitVec 32 := Scalar.select v166 c1_i32_116 c8_i32_114
  let v168 : BitVec 32 := Scalar.remsi v165 v167
  let c0_i32_118 : BitVec 32 := 0#32
  let v170 : BitVec 1 := Scalar.cmpi .slt v168 c0_i32_118
  let c0_i32_119 : BitVec 32 := 0#32
  let v171 : BitVec 1 := Scalar.cmpi .slt v167 c0_i32_119
  let v172 : BitVec 1 := Scalar.xori v170 v171
  let c0_i32_117 : BitVec 32 := 0#32
  let v169 : BitVec 1 := Scalar.cmpi .ne v168 c0_i32_117
  let v173 : BitVec 1 := Scalar.andi v172 v169
  let v174 : BitVec 32 := Scalar.addi v168 v167
  let v175 : BitVec 32 := Scalar.select v173 v174 v168
  let c1_i32_123 : BitVec 32 := 1#32
  let v176 : BitVec 32 := Scalar.muli v175 c1_i32_123
  let v177 : BitVec 32 := Scalar.addi c0_i32_124 v176
  v177.toNat
def k0_dev12 (d13 : Dev nD) : Nat :=
  let c0_i32_138 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c5_i32_127 : BitVec 32 := 5#32
  let v184 : BitVec 32 := Scalar.addi v15 c5_i32_127
  let c8_i32_128 : BitVec 32 := 8#32
  let c0_i32_129 : BitVec 32 := 0#32
  let v185 : BitVec 1 := Scalar.cmpi .eq c8_i32_128 c0_i32_129
  let c1_i32_130 : BitVec 32 := 1#32
  let v186 : BitVec 32 := Scalar.select v185 c1_i32_130 c8_i32_128
  let v187 : BitVec 32 := Scalar.remsi v184 v186
  let c0_i32_132 : BitVec 32 := 0#32
  let v189 : BitVec 1 := Scalar.cmpi .slt v187 c0_i32_132
  let c0_i32_133 : BitVec 32 := 0#32
  let v190 : BitVec 1 := Scalar.cmpi .slt v186 c0_i32_133
  let v191 : BitVec 1 := Scalar.xori v189 v190
  let c0_i32_131 : BitVec 32 := 0#32
  let v188 : BitVec 1 := Scalar.cmpi .ne v187 c0_i32_131
  let v192 : BitVec 1 := Scalar.andi v191 v188
  let v193 : BitVec 32 := Scalar.addi v187 v186
  let v194 : BitVec 32 := Scalar.select v192 v193 v187
  let c1_i32_137 : BitVec 32 := 1#32
  let v195 : BitVec 32 := Scalar.muli v194 c1_i32_137
  let v196 : BitVec 32 := Scalar.addi c0_i32_138 v195
  v196.toNat
def k0_dev13 (d13 : Dev nD) : Nat :=
  let c0_i32_152 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c6_i32_141 : BitVec 32 := 6#32
  let v203 : BitVec 32 := Scalar.addi v15 c6_i32_141
  let c8_i32_142 : BitVec 32 := 8#32
  let c0_i32_143 : BitVec 32 := 0#32
  let v204 : BitVec 1 := Scalar.cmpi .eq c8_i32_142 c0_i32_143
  let c1_i32_144 : BitVec 32 := 1#32
  let v205 : BitVec 32 := Scalar.select v204 c1_i32_144 c8_i32_142
  let v206 : BitVec 32 := Scalar.remsi v203 v205
  let c0_i32_146 : BitVec 32 := 0#32
  let v208 : BitVec 1 := Scalar.cmpi .slt v206 c0_i32_146
  let c0_i32_147 : BitVec 32 := 0#32
  let v209 : BitVec 1 := Scalar.cmpi .slt v205 c0_i32_147
  let v210 : BitVec 1 := Scalar.xori v208 v209
  let c0_i32_145 : BitVec 32 := 0#32
  let v207 : BitVec 1 := Scalar.cmpi .ne v206 c0_i32_145
  let v211 : BitVec 1 := Scalar.andi v210 v207
  let v212 : BitVec 32 := Scalar.addi v206 v205
  let v213 : BitVec 32 := Scalar.select v211 v212 v206
  let c1_i32_151 : BitVec 32 := 1#32
  let v214 : BitVec 32 := Scalar.muli v213 c1_i32_151
  let v215 : BitVec 32 := Scalar.addi c0_i32_152 v214
  v215.toNat
def k0_dev14 (d13 : Dev nD) : Nat :=
  let c0_i32_166 : BitVec 32 := 0#32
  let v13 : BitVec 32 := Dev.word d13
  let c1_i32 : BitVec 32 := 1#32
  let v14 : BitVec 32 := Scalar.divsi v13 c1_i32
  let c8_i32 : BitVec 32 := 8#32
  let v15 : BitVec 32 := Scalar.remsi v14 c8_i32
  let c7_i32_155 : BitVec 32 := 7#32
  let v222 : BitVec 32 := Scalar.addi v15 c7_i32_155
  let c8_i32_156 : BitVec 32 := 8#32
  let c0_i32_157 : BitVec 32 := 0#32
  let v223 : BitVec 1 := Scalar.cmpi .eq c8_i32_156 c0_i32_157
  let c1_i32_158 : BitVec 32 := 1#32
  let v224 : BitVec 32 := Scalar.select v223 c1_i32_158 c8_i32_156
  let v225 : BitVec 32 := Scalar.remsi v222 v224
  let c0_i32_160 : BitVec 32 := 0#32
  let v227 : BitVec 1 := Scalar.cmpi .slt v225 c0_i32_160
  let c0_i32_161 : BitVec 32 := 0#32
  let v228 : BitVec 1 := Scalar.cmpi .slt v224 c0_i32_161
  let v229 : BitVec 1 := Scalar.xori v227 v228
  let c0_i32_159 : BitVec 32 := 0#32
  let v226 : BitVec 1 := Scalar.cmpi .ne v225 c0_i32_159
  let v230 : BitVec 1 := Scalar.andi v229 v226
  let v231 : BitVec 32 := Scalar.addi v225 v224
  let v232 : BitVec 32 := Scalar.select v230 v231 v225
  let c1_i32_165 : BitVec 32 := 1#32
  let v233 : BitVec 32 := Scalar.muli v232 c1_i32_165
  let v234 : BitVec 32 := Scalar.addi c0_i32_166 v233
  v234.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Neighbours.lean ====
/-
# Who talks to whom

The kernel runs on eight devices. Each device adds up its own rows into a running total, then sends the total to every
other device, into one of the seven slots of that device's receive buffer, and adds up what it receives.

A slot is a number `j` below 7. `dst j c` is the device into whose slot `j` the device `c` sends; `src j c` is the device
whose total lands in slot `j` of `c`. The two undo one another. The device numbers that the kernel computes for its
seven barrier signals and its seven transfers are these.
-/
module

public import proofs.«01_k».proof.Proof.Gen.KernelIdeal.Skeleton

@[expose] public section

noncomputable section

namespace Cert.AllSum

open Cert.KernelIdeal Cert.KernelIdeal.Gen
open Idealize.ShloMosaic

set_option backward.proofsInPublic true in
/-- The device into whose slot `j` the device `c` sends its total. -/
def dst (j : Fin 7) (c : Dev nD) : Dev nD := ⟨(c.val + (7 - j.val)) % 8, Nat.mod_lt _ (by decide)⟩

set_option backward.proofsInPublic true in
/-- The device whose total lands in slot `j` of the device `c`. -/
def src (j : Fin 7) (c : Dev nD) : Dev nD := ⟨(c.val + (j.val + 1)) % 8, Nat.mod_lt _ (by decide)⟩

/-- The sender into the slot that `c` sends into is `c`. -/
theorem src_dst (j : Fin 7) (c : Dev nD) : src j (dst j c) = c := by revert j c; decide
/-- The device that the sender into slot `j` of `c` sends to is `c`. -/
theorem dst_src (j : Fin 7) (c : Dev nD) : dst j (src j c) = c := by revert j c; decide

/-- The devices permuted by `dst j`. -/
def perm (j : Fin 7) : Dev nD ≃ Dev nD := ⟨dst j, src j, src_dst j, dst_src j⟩

/-- The devices to which a device sends its total into different slots are different. -/
theorem dst_slot_inj {j j' : Fin 7} {c : Dev nD} (h : dst j c = dst j' c) : j = j' := by revert j j' c; decide
/-- The devices from which a device receives into different slots are different. -/
theorem src_slot_inj {j j' : Fin 7} {c : Dev nD} (h : src j c = src j' c) : j = j' := by revert j j' c; decide

/-! ## The device numbers that the kernel computes

The signals go to the next device, the one after it, and so on; so do the transfers. The signal that goes `k` devices on
tells the sender of slot `k - 1` that the slot is ready; the transfer that goes `k` devices on fills slot `7 - k`. -/

variable (c : Dev nD)

theorem dev1_eq (h) : (⟨k0_dev1 c, h⟩ : Dev nD) = src 0 c := by revert c; decide
theorem dev2_eq (h) : (⟨k0_dev2 c, h⟩ : Dev nD) = src 1 c := by revert c; decide
theorem dev3_eq (h) : (⟨k0_dev3 c, h⟩ : Dev nD) = src 2 c := by revert c; decide
theorem dev4_eq (h) : (⟨k0_dev4 c, h⟩ : Dev nD) = src 3 c := by revert c; decide
theorem dev5_eq (h) : (⟨k0_dev5 c, h⟩ : Dev nD) = src 4 c := by revert c; decide
theorem dev6_eq (h) : (⟨k0_dev6 c, h⟩ : Dev nD) = src 5 c := by revert c; decide
theorem dev7_eq (h) : (⟨k0_dev7 c, h⟩ : Dev nD) = src 6 c := by revert c; decide
theorem dev8_eq (h) : (⟨k0_dev8 c, h⟩ : Dev nD) = dst 6 c := by revert c; decide
theorem dev9_eq (h) : (⟨k0_dev9 c, h⟩ : Dev nD) = dst 5 c := by revert c; decide
theorem dev10_eq (h) : (⟨k0_dev10 c, h⟩ : Dev nD) = dst 4 c := by revert c; decide
theorem dev11_eq (h) : (⟨k0_dev11 c, h⟩ : Dev nD) = dst 3 c := by revert c; decide
theorem dev12_eq (h) : (⟨k0_dev12 c, h⟩ : Dev nD) = dst 2 c := by revert c; decide
theorem dev13_eq (h) : (⟨k0_dev13 c, h⟩ : Dev nD) = dst 1 c := by revert c; decide
theorem dev14_eq (h) : (⟨k0_dev14 c, h⟩ : Dev nD) = dst 0 c := by revert c; decide

end Cert.AllSum

end
-- ==== Proof.Slots.lean ====
/-
# The buffers, their contents and the semaphores

The running total is one row of 1024 numbers; the receive buffer is seven such rows, the slots. This file names the
slots and the semaphores by their number, states what each buffer holds and when, and cuts the receive buffer into its
slots and the running total's ownership into eight shares: one for each of the seven transfers that read it, and one for
the device itself, which reads it while the transfers run.
-/
module

public import proofs.«01_k».proof.Proof.Neighbours
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ShareLeaves
public import Idealize.ShloMosaic.Lib.Tactic

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's rounds, and the exchange's, whose duties are the slot numbers -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The memory references -/

/-- The running total. -/
abbrev accM : Memref sig .tc .vmem S1x1024 .f32 := Memref.whole cc0_scratch0
/-- The receive buffer. -/
abbrev bufM : Memref sig .tc .vmem S7x1x1024 .f32 := Memref.whole cc0_scratch1

/-- The rectangle of slot `j` lies in the receive buffer. -/
theorem slot_inb (j : Fin 7) : ∀ a, (![j.val, 0, 0] : Fin 3 → Nat) a + S1x1x1024.size a ≤ S7x1x1024.size a := by
  revert j; decide
/-- The semaphore number `j` lies in an array of seven. -/
theorem sem_inb (j : Fin 7) : ∀ a, (![j.val] : Fin 1 → Nat) a + S1.size a ≤ S7.size a := by
  revert j; decide

/-- The rectangle of slot `j`. -/
abbrev slotR (j : Fin 7) : Rect S7x1x1024 := Rect.unit (s := S7x1x1024) ![j.val, 0, 0] S1x1x1024.size (slot_inb j)
/-- Slot `j` of the receive buffer. -/
abbrev slotM (j : Fin 7) : Memref sig .tc .vmem S1x1024 .f32 :=
  (bufM.slice (slotR j) (fun _ => rfl)).squeeze S1x1024 squeezes_S1x1x1024_S1x1024

/-- The semaphore that counts the sending side of the transfer into slot `j`. -/
abbrev sendS (j : Fin 7) : DmaSem sig := ((cc0_scratch2.slice (Rect.unit (s := S7) ![j.val] S1.size (sem_inb j))).squeeze S_ squeezes_S1_S_).sem
/-- The semaphore that counts the receiving side of the transfer into slot `j`. -/
abbrev recvS (j : Fin 7) : DmaSem sig := ((cc0_scratch3.slice (Rect.unit (s := S7) ![j.val] S1.size (sem_inb j))).squeeze S_ squeezes_S1_S_).sem
/-- The barrier semaphore. -/
abbrev barS : Sem sig := (SemArray.scalar (sig.barrier 0 rfl) : Sems sig S_).sem

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- What one transfer counts. -/
abbrev N : ℕ := accM.view.dmaCredit
theorem N_pos : 0 < N := View.dmaCredit_pos _ (by decide)

/-! ## What the buffers hold -/

/-- The running total of device `c` after grid point `n`: the column sums of the blocks of rows up to that point. -/
def accSum (c : Dev nD) : (n : ℕ) → n < cfg0.N → Vec F S1x1024 .f32
  | 0, h => k0_pay2 (iblk m c (0 : Fin 2) ⟨0, h⟩)
  | n + 1, h => k0_pay3 (iblk m c (0 : Fin 2) ⟨n + 1, h⟩) (accSum c n (Nat.lt_of_succ_lt h))

/-- The total of device `c` when the exchange begins. -/
def total (c : Dev nD) : Vec F S1x1024 .f32 := accSum m c 7 (by decide)

/-- The receive buffer of device `c` after the exchange: slot `j` holds the total of `src j c`. -/
def landed (c : Dev nD) : Buf (Elt F) ((c : Thread nD τ).loc cc0_scratch1) := fun i =>
  (slotM (i (0 : Fin 3))).view.write (Elt F) (m ((c : Thread nD τ).loc cc0_scratch1)) (total m (src (i (0 : Fin 3)) c)) Finset.univ i

/-- What device `c` writes out: its total and the seven it received. -/
def outSum (c : Dev nD) : Vec F S1x1024 .f32 :=
  k0_pay6
    (k0_pay5
      (k0_pay4 (total m c) (bufM.view.readAt (Elt F) (slotR 0).toLoadRect (landed m c)) (bufM.view.readAt (Elt F) (slotR 1).toLoadRect (landed m c)))
      (bufM.view.readAt (Elt F) (slotR 2).toLoadRect (landed m c)) (bufM.view.readAt (Elt F) (slotR 3).toLoadRect (landed m c)))
    (bufM.view.readAt (Elt F) (slotR 4).toLoadRect (landed m c)) (bufM.view.readAt (Elt F) (slotR 5).toLoadRect (landed m c))
    (bufM.view.readAt (Elt F) (slotR 6).toLoadRect (landed m c))

/-- An element of the receive buffer lies in slot `j` just if its first coordinate is `j`. -/
theorem mem_slot (j : Fin 7) (i : S7x1x1024.Idx) : Iff (i ∈ (slotM j).view.set) (i (0 : Fin 3) = j) := by
  rw [show (slotM j).view.set = (slotR j).set from
    (View.set_reshape _ _).trans (View.set_slice_whole cc0_scratch1 (slotR j)), Rect.mem_set_unit]
  refine ⟨fun h => Fin.ext ?_, fun h a => ?_⟩
  · have h0 := h (0 : Fin 3)
    simp only [Matrix.cons_val_zero] at h0
    have h1 : S1x1x1024.size (0 : Fin 3) = 1 := rfl
    omega
  · have h1 : ∀ a : Fin 3, (i a).val < S7x1x1024.size a := fun a => (i a).isLt
    subst h
    fin_cases a
    · exact ⟨Nat.le_refl _, Nat.lt_succ_self _⟩
    · exact ⟨Nat.zero_le _, (by have := h1 1; exact this)⟩
    · exact ⟨Nat.zero_le _, (by have := h1 2; exact this)⟩

/-- A total written to slot `j` over anything is, on that slot, what the slot holds after the exchange. -/
theorem landed_on (c : Dev nD) (j : Fin 7) (f : Buf (Elt F) ((c : Thread nD τ).loc cc0_scratch1)) (i : S7x1x1024.Idx)
    (hi : i ∈ (slotM j).view.set) :
    (slotM j).view.write (Elt F) f (total m (src j c)) Finset.univ i = landed m c i := by
  have h := (mem_slot j i).mp hi
  subst h
  exact View.write_congr (fun _ _ _ => rfl) (fun hn => absurd hi (by rw [View.setOn_univ] at hn; exact hn))

/-- After the exchange, slot `j` reads as the total of `src j c`. -/
theorem read_landed (c : Dev nD) (j : Fin 7) : (slotM j).view.read (Elt F) (landed m c) = total m (src j c) := by
  rw [← View.read_write_univ (v := (slotM j).view) (Val := Elt F) (m ((c : Thread nD τ).loc cc0_scratch1)) (total m (src j c))]
  funext x
  rw [View.read_apply, View.read_apply]
  exact congrArg _ (landed_on m c j _ _ (View.emb_mem_set _ x)).symm

/-! ## Slots and shares -/

omit [FloatOps F] in
/-- One statement taken out of many. -/
theorem bigSep_take {I : Type} [DecidableEq I] {S : Finset I} {i : I} (h : i ∈ S) (Φ : I → sProp 𝕄) :
    bigSep S Φ = iprop(Φ i ∗ bigSep (S.erase i) Φ) := bigSep_erase h
omit [FloatOps F] in
/-- One statement put to many. -/
theorem bigSep_put {I : Type} [DecidableEq I] {S : Finset I} {i : I} (h : i ∉ S) (Φ : I → sProp 𝕄) :
    bigSep (insert i S) Φ = iprop(Φ i ∗ bigSep S Φ) := bigSep_insert h
omit [FloatOps F] in
/-- One statement out of many. -/
theorem bigSep_one {I : Type} [DecidableEq I] {S : Finset I} {i : I} (h : i ∈ S) (Φ : I → sProp 𝕄) :
    bigSep S Φ ⊢ Φ i := bigSep_elim h
omit [FloatOps F] in
/-- A statement about each of seven, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
/-- A statement about each of eight, written out. -/
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Slot `j` of device `c`, held with contents `f`. -/
def slotPts (c : Dev nD) (j : Fin 7) (f : Buf (Elt F) ((c : Thread nD τ).loc cc0_scratch1)) : sProp 𝕄 :=
  (slotM j).view.loc (c : Thread nD τ) ↦[(slotM j).view.set]{fullShare} f

/-- The share of the running total that the transfer into slot `j` reads through. -/
abbrev shareOf (j : Fin 7) : PosShare TreeShare := ShareLeaves.leaf 3 fullShare j.castSucc
/-- The share of the running total that the device keeps. -/
abbrev shareKept : PosShare TreeShare := ShareLeaves.leaf 3 fullShare (Fin.last 7)

/-- The running total of device `c`, held with contents `f` at the share `q`. -/
def accPts (c : Dev nD) (q : PosShare TreeShare) (f : Buf (Elt F) ((c : Thread nD τ).loc cc0_scratch0)) : sProp 𝕄 :=
  accM.view.loc (c : Thread nD τ) ↦[accM.view.set]{q} f

/-- The total of `c` written to slot `j` of `dst j c`, over anything: the slot is as after the exchange. -/
theorem slotPts_sent (c : Dev nD) (j : Fin 7) (f : Buf (Elt F) ((dst j c : Thread nD τ).loc cc0_scratch1)) :
    slotPts (dst j c) j ((slotM j).view.write (Elt F) f (accM.view.read (Elt F) (total m c)) Finset.univ)
      = slotPts (dst j c) j (landed m (dst j c)) := by
  unfold slotPts
  refine pointsTo_congr fun i hi => ?_
  have h1 : accM.view.read (Elt F) (total m c) = total m (src j (dst j c)) := by rw [src_dst]; exact View.read_whole _ _
  rw [h1]
  exact landed_on m (dst j c) j f i hi

omit [FloatOps F] in
instance slotPts_storable (c : Dev nD) (j : Fin 7) (f) : BI.Storable (upEmb : UEmb _ 𝕄) (slotPts (F := F) c j f) := by
  unfold slotPts; infer_instance
omit [FloatOps F] in
instance accPts_storable (c : Dev nD) (q f) : BI.Storable (upEmb : UEmb _ 𝕄) (accPts (F := F) c q f) := by
  unfold accPts; infer_instance

omit [FloatOps F] in
/-- Two slots share no element. -/
theorem slots_disjoint : ∀ j j' : Fin 7, j ≠ j' → Disjoint (slotM j).view.set (slotM j').view.set := fun j j' h =>
  Finset.disjoint_left.mpr fun i hi hi' => h (((mem_slot j i).mp hi).symm.trans ((mem_slot j' i).mp hi'))

omit [FloatOps F] in
/-- The slots are the whole receive buffer. -/
theorem slots_cover : (Finset.biUnion (β := S7x1x1024.Idx) Finset.univ fun j : Fin 7 => (slotM j).view.set) = Finset.univ :=
  Finset.eq_univ_iff_forall.mpr fun i => Finset.mem_biUnion.mpr ⟨i (0 : Fin 3), Finset.mem_univ _, (mem_slot _ i).mpr rfl⟩

omit [FloatOps F] in
/-- The receive buffer held whole is its slots held. -/
theorem buf_slots (c : Dev nD) (f : Buf (Elt F) ((c : Thread nD τ).loc cc0_scratch1)) :
    (((c : Thread nD τ).loc cc0_scratch1) ↦{fullShare} f : sProp 𝕄) = bigSep Finset.univ fun j => slotPts c j f :=
  Ring.pointsTo_blocks (ℓ := (c : Thread nD τ).loc cc0_scratch1) (fun j : Fin 7 => (slotM j).view.set) slots_disjoint slots_cover f

omit [FloatOps F] in
/-- Eight statements, regrouped as the first seven and the last. -/
theorem seven_one (P : Fin 8 → sProp 𝕄) :
    iprop(P 0 ∗ P 1 ∗ P 2 ∗ P 3 ∗ P 4 ∗ P 5 ∗ P 6 ∗ P 7) = iprop((P 0 ∗ P 1 ∗ P 2 ∗ P 3 ∗ P 4 ∗ P 5 ∗ P 6) ∗ P 7) := by
  have h₁ : iprop(P 0 ∗ P 1 ∗ P 2 ∗ P 3 ∗ P 4 ∗ P 5 ∗ P 6 ∗ P 7) ⊢ iprop((P 0 ∗ P 1 ∗ P 2 ∗ P 3 ∗ P 4 ∗ P 5 ∗ P 6) ∗ P 7) := by
    iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    · iexact H7
  have h₂ : iprop((P 0 ∗ P 1 ∗ P 2 ∗ P 3 ∗ P 4 ∗ P 5 ∗ P 6) ∗ P 7) ⊢ iprop(P 0 ∗ P 1 ∗ P 2 ∗ P 3 ∗ P 4 ∗ P 5 ∗ P 6 ∗ P 7) := by
    iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact BI.Entails.antisymm h₁ h₂

omit [FloatOps F] in
/-- The running total held in full is the seven transfers' shares of it and the share that the device keeps. -/
theorem acc_shares (c : Dev nD) (f : Buf (Elt F) ((c : Thread nD τ).loc cc0_scratch0)) :
    (((c : Thread nD τ).loc cc0_scratch0) ↦{fullShare} f : sProp 𝕄)
      = iprop((bigSep Finset.univ fun j => accPts c (shareOf j) f) ∗ accPts c shareKept f) := by
  have hset : accM.view.set = Finset.univ := View.set_whole _
  rw [bigSep_fin7]
  unfold accPts
  rw [hset]
  exact (ShareLeaves.pointsTo_leaves Finset.univ f 3 fullShare).trans
    ((bigSep_fin8 fun i : Fin 8 => iprop(((c : Thread nD τ).loc cc0_scratch0) ↦{ShareLeaves.leaf 3 fullShare i} f)).trans
      (seven_one fun i : Fin 8 => iprop(((c : Thread nD τ).loc cc0_scratch0) ↦{ShareLeaves.leaf 3 fullShare i} f)))

end Cert.AllSum

end
-- ==== Proof.Schedule.lean ====
/-
# The schedule of the exchange

Every semaphore of the exchange is used for one round only. A device's barrier counts one unit from each of the seven
other devices: the unit from `dst j c` says that slot `j` of `dst j c` is ready and hands that slot over. The transfer
into a slot counts on the sender's semaphore, which gives the sender its share of the running total back, and on the
receiver's, which gives the receiver the slot with the sender's total in it.

Nothing waits in a circle: a device at the barrier still owes its transfers only, and a device that waits for a transfer
owes nothing.
-/
module

public import proofs.«01_k».proof.Proof.Slots

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What each unit hands over -/

/-- The unit that `dst j c` gives the barrier of `c`: slot `j` of `dst j c`, with whatever is in it. -/
def barPay (c : Dev nD) (j : Fin 7) : sProp 𝕄 := iprop(∃ f, slotPts (dst j c) j f)
/-- The transfer into slot `j` of `c`, at the receiver: the slot, filled. -/
def recvPay (c : Dev nD) (j : Fin 7) : sProp 𝕄 := slotPts c j (landed m c)
/-- The transfer by which `c` fills slot `j` of another device, at the sender: its share of the running total. -/
def sendPay (c : Dev nD) (j : Fin 7) : sProp 𝕄 := accPts c (shareOf j) (total m c)

/-- The barrier's semaphore. -/
abbrev IsBar (g : GSem nD τ sig) : Prop := g.1.2 = .tc ∧ g.2 = .reg barS
/-- A transfer's semaphore, of either side. -/
abbrev IsXfer (g : GSem nD τ sig) : Prop := g.1.2 = .tc ∧ ((∃ j, g.2 = .dma (sendS j)) ∨ ∃ j, g.2 = .dma (recvS j))

open Classical in
/-- The one round of each semaphore: who gives how many units, and what with them. -/
def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if h : ∃ j, g.2 = .dma (recvS j) then recvPay m g.1.1 h.choose
    else if h : ∃ j, g.2 = .dma (sendS j) then sendPay m g.1.1 h.choose
    else iprop(emp)
  amount_pos g _ _ _ := by
    by_cases h : g.2 = .reg barS
    · rw [if_pos h]; exact Nat.one_pos
    · rw [if_neg h]; exact N_pos

open Classical in
instance sched_payload_storable (g : GSem nD τ sig) (r : ℕ) (d : Fin 7) :
    BI.Storable (upEmb : UEmb _ 𝕄) ((sched (F := F) m).payload g r d) := by
  show BI.Storable upEmb (if g.2 = .reg barS then barPay g.1.1 d
    else if h : ∃ j, g.2 = .dma (recvS j) then recvPay m g.1.1 h.choose
    else if h : ∃ j, g.2 = .dma (sendS j) then sendPay m g.1.1 h.choose
    else iprop(emp))
  unfold barPay recvPay sendPay
  (repeat' split) <;> infer_instance

/-! ## The semaphores are different -/

theorem send_ne_bar (j : Fin 7) : (SemLoc.dma (sendS j) : SemLoc sig) ≠ .reg barS := fun h => by cases h
theorem recv_ne_bar (j : Fin 7) : (SemLoc.dma (recvS j) : SemLoc sig) ≠ .reg barS := fun h => by cases h
theorem send_ne_recv (j j' : Fin 7) : (SemLoc.dma (sendS j) : SemLoc sig) ≠ .dma (recvS j') := by revert j j'; decide
theorem send_inj {j j' : Fin 7} (h : (SemLoc.dma (sendS j) : SemLoc sig) = .dma (sendS j')) : j = j' := by
  revert j j'; decide
theorem recv_inj {j j' : Fin 7} (h : (SemLoc.dma (recvS j) : SemLoc sig) = .dma (recvS j')) : j = j' := by
  revert j j'; decide

/-! ## The schedule at each semaphore -/

section Sched
variable (c : Dev nD) (j : Fin 7)

theorem duties_bar : (sched (F := F) m).duties (barCell c) 0 = Finset.univ := by dsimp only [sched]; exact if_pos ⟨rfl, rfl, rfl⟩
theorem duties_send : (sched (F := F) m).duties (sendCell c j) 0 = {0} := by
  dsimp only [sched]; rw [if_neg (fun h => send_ne_bar j h.2.2)]; exact if_pos ⟨rfl, rfl, .inl ⟨j, rfl⟩⟩
theorem duties_recv : (sched (F := F) m).duties (recvCell c j) 0 = {0} := by
  dsimp only [sched]; rw [if_neg (fun h => recv_ne_bar j h.2.2)]; exact if_pos ⟨rfl, rfl, .inr ⟨j, rfl⟩⟩
/-- There is no later round. -/
theorem duties_later (g : GSem nD τ sig) : ∀ r, 1 ≤ r → (sched (F := F) m).duties g r = ∅ :=
  fun r hr => by dsimp only [sched]; rw [if_neg fun h => by omega, if_neg fun h => by omega]

theorem amount_bar (d : Fin 7) : (sched (F := F) m).amount (barCell c) 0 d = 1 := by dsimp only [sched]; exact if_pos rfl
theorem amount_send (d : Fin 7) : (sched (F := F) m).amount (sendCell c j) 0 d = N := by dsimp only [sched]; exact if_neg (send_ne_bar j)
theorem amount_recv (d : Fin 7) : (sched (F := F) m).amount (recvCell c j) 0 d = N := by dsimp only [sched]; exact if_neg (recv_ne_bar j)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c j) 0 = N := by
  unfold Schedule.expect Schedule.amountOf; rw [duties_send, Finset.sum_singleton, amount_send]
theorem expect_recv : (sched (F := F) m).expect (recvCell c j) 0 = N := by
  unfold Schedule.expect Schedule.amountOf; rw [duties_recv, Finset.sum_singleton, amount_recv]

theorem payload_bar (d : Fin 7) : (sched (F := F) m).payload (barCell c) 0 d = barPay c d := by dsimp only [sched]; exact if_pos rfl
theorem payload_recv (d : Fin 7) : (sched (F := F) m).payload (recvCell c j) 0 d = recvPay m c j := by
  have h : ∃ i, (recvCell c j).2 = .dma (recvS i) := ⟨j, rfl⟩
  dsimp only [sched]
  rw [if_neg (recv_ne_bar j), dif_pos h, ← recv_inj h.choose_spec]
theorem payload_send (d : Fin 7) : (sched (F := F) m).payload (sendCell c j) 0 d = sendPay m c j := by
  have h : ∃ i, (sendCell c j).2 = .dma (sendS i) := ⟨j, rfl⟩
  dsimp only [sched]
  rw [if_neg (send_ne_bar j), dif_neg (fun ⟨i, hi⟩ => send_ne_recv j i hi), dif_pos h, ← send_inj h.choose_spec]

/-- All that a device gets at the barrier: slot `j` of `dst j c`, for every `j`. -/
theorem rest_bar : bigSep ((sched (F := F) m).duties (barCell c) 0 \ ∅) (fun d => (sched (F := F) m).payload (barCell c) 0 d)
    = bigSep Finset.univ (barPay c) := by
  rw [Finset.sdiff_empty, duties_bar]; exact bigSep_congr fun d _ => payload_bar m c d
/-- What the sender's semaphore gives back. -/
theorem rest_send : bigSep ((sched (F := F) m).duties (sendCell c j) 0 \ ∅) (fun d => (sched (F := F) m).payload (sendCell c j) 0 d)
    = sendPay m c j := by
  rw [Finset.sdiff_empty, duties_send, bigSep_singleton, payload_send]
/-- What the receiver's semaphore brings. -/
theorem rest_recv : bigSep ((sched (F := F) m).duties (recvCell c j) 0 \ ∅) (fun d => (sched (F := F) m).payload (recvCell c j) 0 d)
    = recvPay m c j := by
  rw [Finset.sdiff_empty, duties_recv, bigSep_singleton, payload_recv]

end Sched

/-! ## What a device owes -/

/-- The transfers that device `c` still owes, into the slots `S`. -/
def oweSends (c : Dev nD) (S : Finset (Fin 7)) : CellTallies nD τ sig Unit := ∑ j ∈ S, tallyAt (recvCell (dst j c) j) () N
/-- The signals that device `c` still owes, about its slots `S`. -/
def oweSignals (c : Dev nD) (S : Finset (Fin 7)) : CellTallies nD τ sig Unit := ∑ j ∈ S, tallyAt (barCell (src j c)) () 1
/-- All that device `c` owes when the kernel starts. -/
def oweAll (c : Dev nD) : CellTallies nD τ sig Unit := oweSends c Finset.univ + oweSignals c Finset.univ

theorem oweSends_erase (c : Dev nD) {S : Finset (Fin 7)} {j : Fin 7} (h : j ∈ S) :
    oweSends c S = oweSends c (S.erase j) + tallyAt (recvCell (dst j c) j) () N := (Finset.sum_erase_add S _ h).symm
theorem oweSignals_erase (c : Dev nD) {S : Finset (Fin 7)} {j : Fin 7} (h : j ∈ S) :
    oweSignals c S = oweSignals c (S.erase j) + tallyAt (barCell (src j c)) () 1 := (Finset.sum_erase_add S _ h).symm
theorem oweSends_empty (c : Dev nD) : oweSends c ∅ = 0 := Finset.sum_empty
theorem oweSignals_empty (c : Dev nD) : oweSignals c ∅ = 0 := Finset.sum_empty

/-- A transfer owed is owed to a receiving semaphore. -/
theorem oweSends_pos {c : Dev nD} {S : Finset (Fin 7)} {g : GSem nD τ sig} {u : Unit} (h : 0 < oweSends c S g u) :
    ∃ j, g = recvCell (dst j c) j := by
  unfold oweSends at h
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl
/-- A signal owed is owed to a barrier. -/
theorem oweSignals_pos {c : Dev nD} {S : Finset (Fin 7)} {g : GSem nD τ sig} {u : Unit} (h : 0 < oweSignals c S g u) :
    ∃ j, g = barCell (src j c) := by
  unfold oweSignals at h
  rw [Finset.sum_apply, Finsupp.finset_sum_apply] at h
  obtain ⟨j, -, hj⟩ := Finset.exists_ne_zero_of_sum_ne_zero (Nat.pos_iff_ne_zero.mp h)
  refine ⟨j, ?_⟩
  by_contra hn
  rw [tallyAt_apply, if_neg (fun h' => hn h'.1)] at hj
  exact hj rfl
/-- What is owed at the start is owed to a receiving semaphore or to a barrier. -/
theorem oweAll_pos {c : Dev nD} {g : GSem nD τ sig} {u : Unit} (h : 0 < oweAll c g u) :
    (∃ j, g = recvCell (dst j c) j) ∨ ∃ j, g = barCell (src j c) := by
  unfold oweAll at h
  rw [Pi.add_apply, Finsupp.add_apply] at h
  by_cases h1 : 0 < oweSends c Finset.univ g u
  · exact .inl (oweSends_pos h1)
  · exact .inr (oweSignals_pos (S := Finset.univ) (u := u) (by omega))

/-! ## The order of the waits -/

def L (g : GSem nD τ sig) : Finset Unit := if g.1.2 = .tc then {()} else ∅
open Classical in
/-- The barriers come first, then the receiving semaphores; a wait may leave owed only what comes later. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c : Dev nD) (j : Fin 7) (u : Unit) : lv (recvCell c j) u = 2 := by
  dsimp only [lv]; rw [if_neg (recv_ne_bar j)]; exact if_pos ⟨j, rfl⟩

omit [FloatOps F] in
/-- A wait for a staging copy is allowed, whatever of the exchange is owed. -/
theorem mayWait_stage (c : Dev nD) (q : DmaSem sig) (hq : ∀ j, SemLoc.dma q ≠ .dma (recvS j)) (O : CellTallies nD τ sig Unit)
    (hO : O = oweAll c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweAll_pos hg with ⟨j, rfl⟩ | ⟨j, rfl⟩ <;> exact Finset.mem_singleton_self _)
      (fun p hp => by
        rw [Finset.mem_singleton.mp hp]; dsimp only [lv]
        rw [if_neg (fun h => by cases h), if_neg (fun ⟨j, hj⟩ => hq j hj)])
      (fun g u hg => by
        rcases oweAll_pos hg with ⟨j, rfl⟩ | ⟨j, rfl⟩
        · rw [lv_recv]; decide
        · rw [lv_bar]; decide)
  · rw [MayWait_zero]; iintro -; iempintro

omit [FloatOps F] in
/-- The wait at the barrier is allowed: only transfers are owed then. -/
theorem mayWait_bar (c : Dev nD) (S : Finset (Fin 7)) :
    (levAts L lv : sProp 𝕄) ⊢ MayWait (c : Thread nD τ) (.reg barS) () (oweSends c S) :=
  MayOwe.of_cut (L := L) (lev := lv) 1 (fun p hp => by rw [Finset.mem_singleton.mp hp, L_tc]; exact Finset.mem_singleton_self _)
    (fun g u hg => by obtain ⟨j, rfl⟩ := oweSends_pos hg; exact Finset.mem_singleton_self _)
    (fun p hp => by rw [Finset.mem_singleton.mp hp, lv_bar])
    (fun g u hg => by obtain ⟨j, rfl⟩ := oweSends_pos hg; rw [lv_recv]; decide)

/-! ## All semaphores of the exchange, and what is known of them -/

/-- The semaphores of one device: its barrier, its seven sending and its seven receiving semaphores. -/
abbrev Cell : Type := Unit ⊕ Fin 7 ⊕ Fin 7
abbrev semOf : Cell → SemLoc sig
  | .inl _ => .reg barS
  | .inr (.inl j) => .dma (sendS j)
  | .inr (.inr j) => .dma (recvS j)
abbrev cellAt (ck : Dev nD × Cell) : GSem nD τ sig := ((ck.1 : Thread nD τ), semOf ck.2)

/-- The invariants of all of them, under the names `K`, and that each has begun its round. -/
def records (K : Dev nD × Cell → ℕ) : sProp 𝕄 :=
  iprop((bigSep Finset.univ fun ck : Dev nD × Cell => cellInv ER (sched m) (K ck) (cellAt ck))
    ∗ bigSep Finset.univ fun ck : Dev nD × Cell => reached ER (cellAt ck) 0)

instance records_persistent (K : Dev nD × Cell → ℕ) : BI.Persistent (records m K) := by unfold records; infer_instance

/-- The invariant of one of them. -/
theorem inv_at (K : Dev nD × Cell → ℕ) (ck : Dev nD × Cell) : records m K ⊢ cellInv ER (sched m) (K ck) (cellAt ck) := by
  unfold records
  iintro ⟨#HI, -⟩
  iapply (bigSep_one (Finset.mem_univ ck) fun ck : Dev nD × Cell => (cellInv ER (sched m) (K ck) (cellAt ck) : sProp 𝕄))
  iexact HI
/-- One of them has begun its round. -/
theorem reached_at (K : Dev nD × Cell → ℕ) (ck : Dev nD × Cell) : records m K ⊢ reached ER (cellAt ck) 0 := by
  unfold records
  iintro ⟨-, #HR⟩
  iapply (bigSep_one (Finset.mem_univ ck) fun ck : Dev nD × Cell => (reached ER (cellAt ck) 0 : sProp 𝕄))
  iexact HR

end Cert.AllSum

end
-- ==== Proof.Steps.lean ====
/-
# The steps of the exchange

Each theorem here is one operation of the kernel: what a device holds before it, and what after. A state names a set `S`
of slots: those whose signal, transfer or wait is still to come. The operation about slot `j` takes `j` out of `S`. In
each theorem `R` is whatever else is held.
-/
module

public import proofs.«01_k».proof.Proof.Schedule

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

abbrev 𝒱₀ : Variants := Variants.none

/-- A kernel program of device `c` runs to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The states -/

/-- Device `c` owes `O`, whatever it waited for so far. -/
def owesAny (c : Dev nD) (O : CellTallies nD τ sig Unit) : sProp 𝕄 := iprop(∃ W, owes (c : Thread nD τ) O W)

/-- Before the signals about the slots `S`: those slots, the right to signal, and what is owed. -/
def signalling (c : Dev nD) (S : Finset (Fin 7)) : sProp 𝕄 :=
  iprop((bigSep S fun j => iprop((∃ f, slotPts c j f) ∗ dutyTok ER (barCell (src j c)) 0 j))
    ∗ owesAny c (oweSends c Finset.univ + oweSignals c S))

/-- What the transfer into slot `j` of another device needs: that slot, a share of the running total, and the right to
    count on both semaphores. -/
def sendNeed (c : Dev nD) (j : Fin 7) : sProp 𝕄 :=
  iprop((∃ f, slotPts (dst j c) j f) ∗ accPts c (shareOf j) (total m c)
    ∗ dutyTok ER (sendCell c j) 0 0 ∗ dutyTok ER (recvCell (dst j c) j) 0 0)

/-- Before the transfers into the slots `S`, the others begun. -/
def sending (c : Dev nD) (S : Finset (Fin 7)) : sProp 𝕄 :=
  iprop((bigSep S (sendNeed m c)) ∗ (bigSep Sᶜ fun j => cred (tallyAt (sendCell c j) () N)) ∗ owesAny c (oweSends c S))

/-- Before the waits for the slots `S`, the others filled. -/
def receiving (c : Dev nD) (S : Finset (Fin 7)) : sProp 𝕄 :=
  iprop((bigSep S fun j => iprop(atPos ER (recvCell c j) 0 ∅ 0 ∗ cred (tallyAt (recvCell c j) () N)))
    ∗ (bigSep Sᶜ fun j => iprop(slotPts c j (landed m c) ∗ semVal (recvCell c j) 0)) ∗ owesAny c 0)

/-- Before the waits for the device's own transfers into the slots `S`, the others complete. -/
def collecting (c : Dev nD) (S : Finset (Fin 7)) : sProp 𝕄 :=
  iprop((bigSep S fun j => iprop(atPos ER (sendCell c j) 0 ∅ 0 ∗ cred (tallyAt (sendCell c j) () N)))
    ∗ (bigSep Sᶜ fun j => iprop(accPts c (shareOf j) (total m c) ∗ semVal (sendCell c j) 0)) ∗ owesAny c 0)

/-! ## The operations -/

/-- The slots done, one more of them. -/
theorem compl_step {S : Finset (Fin 7)} {j : Fin 7} : (S.erase j)ᶜ = insert j Sᶜ := Finset.compl_erase
theorem not_mem_compl {S : Finset (Fin 7)} {j : Fin 7} (h : j ∈ S) : j ∉ Sᶜ := fun h' => (Finset.mem_compl.mp h') h

/-- The signal to the sender of slot `j`: the slot is ready, and goes to it. -/
theorem signal_step {c n : Dev nD} {j : Fin 7} {S : Finset (Fin 7)} (hj : j ∈ S) (hn : n = src j c)
    {s : Sem sig} (hs : s = barS) {a : Int} (ha : a = ((1 : ℕ) : Int)) {α : Type} {Q : α → sProp 𝕄} {R : sProp 𝕄}
    {k : PUnit → Prog (TpuEff nD τ sig (Elt F) Λ₀ .tc) α}
    (h : iprop((records m K ∗ signalling c (S.erase j)) ∗ R) ⊢ runs c (k ⟨⟩) Q) :
    iprop((records m K ∗ signalling c S) ∗ R) ⊢ runs c (.op (.semSignal (n : Thread nD τ) s a) k) Q := by
  subst hn hs ha
  unfold signalling owesAny at h ⊢
  rw [bigSep_take hj, oweSignals_erase c hj, ← add_assoc]
  iintro ⟨⟨#Hrec, ⟨⟨⟨%f, Hslot⟩, Htok⟩, Hs⟩, ⟨%W, HO⟩⟩, HR⟩
  iapply (Rounds.wp_signal 𝒱₀ ER (sched m) (c : Thread nD τ) none (dst := (src j c : Thread nD τ)) (κ := K (src j c, .inl ()))
      (d := j) (by rw [duties_bar]; exact Finset.mem_univ _) (amount_bar m (src j c) j) ()
      (oweSends c Finset.univ + oweSignals c (S.erase j)) rfl) $$ [HO Hslot Htok]
  · isplitr; · iapply (inv_at m K (src j c, .inl ())); iexact Hrec
    isplitl [HO]; · iexact HO
    isplitl [Htok]; · iexact Htok
    isplitl [Hslot]
    · rw [payload_bar]; unfold barPay; rw [dst_src]; iexists f; iexact Hslot
    · iapply (reached_at m K (src j c, .inl ())); iexact Hrec
  iintro HO
  iapply h
  isplitr [HR]
  · isplitr; · iexact Hrec
    isplitl [Hs]; · iexact Hs
    iexists W; iexact HO
  · iexact HR

/-- The wait at the barrier for all seven signals: slot `j` of `dst j c`, for every `j`, and the barrier done with. -/
theorem barrier_step {c : Dev nD} {s : Sem sig} (hs : s = barS) {a : Int} (ha : a = ((7 : ℕ) : Int)) {α : Type} {Q : α → sProp 𝕄}
    {R : sProp 𝕄} {k : PUnit → Prog (TpuEff nD τ sig (Elt F) Λ₀ .tc) α}
    (h : iprop((records m K ∗ bigSep Finset.univ (barPay (F := F) c) ∗ semVal (barCell c) 0 ∗ owesAny c (oweSends c Finset.univ)) ∗ R)
      ⊢ runs c (k ⟨⟩) Q) :
    iprop((records m K ∗ levAts L lv ∗ atPos ER (barCell c) 0 ∅ 0 ∗ cred (tallyAt (barCell c) () 7)
        ∗ owesAny c (oweSends c Finset.univ + oweSignals c ∅)) ∗ R)
      ⊢ runs c (.op (.semWait s a) k) Q := by
  subst hs ha
  rw [oweSignals_empty, add_zero]
  unfold owesAny at h ⊢
  iintro ⟨⟨#Hrec, #Hlev, Hat, Hc, ⟨%W, HO⟩⟩, HR⟩
  iapply (Rounds.wp_wait_rest_token 𝒱₀ ER (sched m) (c : Thread nD τ) none (κ := K (c, .inl ()))
      (wpE_semWait_eq 𝒱₀ (c : Thread nD τ) none Set.univ) (Set.mem_univ _) () (O := oweSends c Finset.univ) (W := W) (R := 0) (m := 0) (T := ∅)
      (by rw [expect_bar])) $$ [Hc HO Hat]
  · isplitr; · iapply (inv_at m K (c, .inl ())); iexact Hrec
    isplitl [Hc]; · iexact Hc
    isplitl [HO]; · iexact HO
    isplitr; · iapply (mayWait_bar c Finset.univ); iexact Hlev
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (inv_at m K (c, .inl ())); iexact Hrec
    iexact Hat
  iapply h
  isplitr [HR]
  · isplitr; · iexact Hrec
    isplitl [Hp]; · iexact Hp
    isplitl [Hz]; · iexact Hz
    iexists _; iexact HO
  · iexact HR

/-- A transfer begins: the rule for it at the two semaphores of slot `j`. -/
theorem send_rule (c : Dev nD) (j : Fin 7) {hsc : (slotM j).view.ref.isScScratch = false} {hsrc : accM.view.WordExact}
    {hdst : (slotM j).view.WordExact}
    {hsem : DmaTarget.Typed .vmem (.dma (recvS j)) (.remote (Dev.tc (dst j c) : Thread nD τ) (slotM j) (.dma (sendS j)) hsc)}
    {α : Type} {Q : α → sProp 𝕄} {k : PUnit → Prog (TpuEff nD τ sig (Elt F) Λ₀ .tc) α}
    (f : Buf (Elt F) ((dst j c : Thread nD τ).loc cc0_scratch1)) (O : CellTallies nD τ sig Unit) (W : Waits sig Unit) :
    iprop(cellInv ER (sched m) (K (c, .inr (.inl j))) (sendCell c j)
        ∗ cellInv ER (sched m) (K (dst j c, .inr (.inr j))) (recvCell (dst j c) j)
        ∗ accPts c (shareOf j) (total m c) ∗ slotPts (dst j c) j f
        ∗ owes (c : Thread nD τ) (O + tallyAt (recvCell (dst j c) j) () N) W
        ∗ dutyTok ER (sendCell c j) 0 0 ∗ reached ER (sendCell c j) 0
        ∗ dutyTok ER (recvCell (dst j c) j) 0 0 ∗ reached ER (recvCell (dst j c) j) 0)
      ⊢ iprop(((cred (tallyAt (sendCell c j) () N) ∗ owes (c : Thread nD τ) O W) -∗ runs c (k ⟨⟩) Q)
          -∗ runs c (.op (.enqueueDma accM (.remote (Dev.tc (dst j c) : Thread nD τ) (slotM j) (.dma (sendS j)) hsc)
              (.dma (recvS j)) hsrc hdst hsem) k) Q) := by
  have hpay₂ : slotPts (dst j c) j ((slotM j).view.write (Elt F) f (accM.view.read (Elt F) (total m c)) Finset.univ)
      ⊢ (sched m).payload (recvCell (dst j c) j) 0 0 := by
    rw [payload_recv, slotPts_sent]; exact BI.Entails.refl _
  have hpay₁ : accPts c (shareOf j) (total m c) ⊢ (sched m).payload (sendCell c j) 0 0 := by
    rw [payload_send]; exact BI.Entails.refl _
  unfold slotPts at hpay₂ ⊢
  unfold accPts at hpay₁ ⊢
  exact Rounds.wp_send_pointsTo 𝒱₀ ER (sched m) (c : Thread nD τ) none (κ₁ := K (c, .inr (.inl j))) (κ₂ := K (dst j c, .inr (.inr j)))
      (c' := (dst j c : Thread nD τ)) (src := accM) (dst := slotM j) (q := shareOf j)
      (fs := total m c) (r₁ := 0) (r₂ := 0) (d₁ := 0) (d₂ := 0) (fd := f)
      (by rw [duties_send]; exact Finset.mem_singleton_self _) (by rw [duties_recv]; exact Finset.mem_singleton_self _)
      () () N rfl (amount_send m c j 0) (amount_recv m (dst j c) j 0) O rfl (W := W) hpay₁ hpay₂

/-- The transfer of the running total into slot `j` of another device begins. -/
theorem send_step {c n : Dev nD} {j : Fin 7} {S : Finset (Fin 7)} (hj : j ∈ S) (hn : n = dst j c)
    {sS : DmaSem sig} (hsS : sS = sendS j) {sR : DmaSem sig} (hsR : sR = recvS j)
    {b : Memref sig .tc .vmem S1x1024 .f32} (hb : b = slotM j)
    {hsc : b.view.ref.isScScratch = false} {hsrc : accM.view.WordExact} {hdst : b.view.WordExact}
    {hsem : DmaTarget.Typed .vmem (.dma sR) (.remote (Dev.tc n : Thread nD τ) b (.dma sS) hsc)}
    {α : Type} {Q : α → sProp 𝕄} {R : sProp 𝕄} {k : PUnit → Prog (TpuEff nD τ sig (Elt F) Λ₀ .tc) α}
    (h : iprop((records m K ∗ sending m c (S.erase j)) ∗ R) ⊢ runs c (k ⟨⟩) Q) :
    iprop((records m K ∗ sending m c S) ∗ R)
      ⊢ runs c (.op (.enqueueDma accM (.remote (Dev.tc n : Thread nD τ) b (.dma sS) hsc) (.dma sR) hsrc hdst hsem) k) Q := by
  subst hn hsS hsR hb
  unfold sending owesAny at h ⊢
  rw [compl_step, bigSep_put (not_mem_compl hj)] at h
  rw [bigSep_take hj, oweSends_erase c hj]
  iintro ⟨⟨#Hrec, ⟨Hneed, Hs⟩, Hcs, ⟨%W, HO⟩⟩, HR⟩
  unfold sendNeed
  icases Hneed with ⟨⟨%f, Hslot⟩, Hacc, HtS, HtR⟩
  iapply (send_rule m K c j f (oweSends c (S.erase j)) W) $$ [Hslot Hacc HtS HtR HO]
  · isplitr; · iapply (inv_at m K (c, .inr (.inl j))); iexact Hrec
    isplitr; · iapply (inv_at m K (dst j c, .inr (.inr j))); iexact Hrec
    isplitl [Hacc]; · iexact Hacc
    isplitl [Hslot]; · iexact Hslot
    isplitl [HO]; · iexact HO
    isplitl [HtS]; · iexact HtS
    isplitr; · iapply (reached_at m K (c, .inr (.inl j))); iexact Hrec
    isplitl [HtR]; · iexact HtR
    iapply (reached_at m K (dst j c, .inr (.inr j))); iexact Hrec
  iintro ⟨Hc, HO⟩
  iapply h
  isplitr [HR]
  · isplitr; · iexact Hrec
    isplitl [Hs]; · iexact Hs
    isplitl [Hc Hcs]
    · isplitl [Hc]; · iexact Hc
      iexact Hcs
    iexists W; iexact HO
  · iexact HR

/-- The wait for slot `j`: it is filled, and its semaphore done with. -/
theorem recv_step {c : Dev nD} {j : Fin 7} {S : Finset (Fin 7)} (hj : j ∈ S) {q : DmaSem sig} (hq : q = recvS j)
    {sp sp' : Space} {s s' : Shape} {e e' : EltTy} {a : Memref sig .tc sp' s' e'} {b : Memref sig .tc sp s e}
    {hsrc : a.view.WordExact} {hdst : b.view.WordExact} (hN : b.view.dmaCredit = N)
    {α : Type} {Q : α → sProp 𝕄} {R : sProp 𝕄} {k : PUnit → Prog (TpuEff nD τ sig (Elt F) Λ₀ .tc) α}
    (h : iprop((records m K ∗ receiving m c (S.erase j)) ∗ R) ⊢ runs c (k ⟨⟩) Q) :
    iprop((records m K ∗ receiving m c S) ∗ R) ⊢ runs c (.op (.waitDma2 q a b hsrc hdst) k) Q := by
  subst hq
  unfold receiving owesAny at h ⊢
  rw [compl_step, bigSep_put (not_mem_compl hj)] at h
  rw [bigSep_take hj]
  iintro ⟨⟨#Hrec, ⟨⟨Hat, Hc⟩, Hs⟩, Hd, ⟨%W, HO⟩⟩, HR⟩
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv]; exact hN)) $$ [Hc HO Hat]
  · isplitr; · iapply (inv_at m K (c, .inr (.inr j))); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c j)) $$ Hpay
  imod (Rounds.cell_close ER (sched m) (Set.mem_univ (K (c, .inr (.inr j)))) (fun h => h) (R := 0 + 1) (duties_later m (recvCell c j))) $$ [Hat] with Hz
  · isplitr; · iapply (inv_at m K (c, .inr (.inr j))); iexact Hrec
    iexact Hat
  unfold recvPay
  iapply h
  isplitr [HR]
  · isplitr; · iexact Hrec
    isplitl [Hs]; · iexact Hs
    isplitl [Hp Hz Hd]
    · isplitl [Hp Hz]
      · isplitl [Hp]; · iexact Hp
        iexact Hz
      iexact Hd
    iexists _; iexact HO
  · iexact HR

/-- The load of a slot that is filled. -/
theorem load_slot_step {c : Dev nD} {j : Fin 7} {S : Finset (Fin 7)} (hj : j ∉ S) {r : LoadRect S7x1x1024} (hr : r = (slotR j).toLoadRect)
    {hl : bufM.view.LoadsAt r} {α : Type} {Q : α → sProp 𝕄} {R : sProp 𝕄} {k : (r.shape.Idx → Elt F .f32) → Prog (TpuEff nD τ sig (Elt F) Λ₀ .tc) α}
    (h : iprop((records m K ∗ receiving m c S) ∗ R) ⊢ runs c (k (bufM.view.readAt (Elt F) r (landed m c))) Q) :
    iprop((records m K ∗ receiving m c S) ∗ R) ⊢ runs c (.op (.load bufM r hl) k) Q := by
  subst hr
  have hset : bufM.view.setOn (slotR j).toLoadRect.set ⊆ (slotM j).view.set :=
    subset_of_eq ((View.set_slice _ (slotR j)).symm.trans (View.set_reshape _ _).symm)
  unfold receiving slotPts at h ⊢
  rw [bigSep_take (Finset.mem_compl.mpr hj)] at h ⊢
  iintro ⟨⟨#Hrec, Hs, ⟨⟨Hslot, Hz⟩, Hd⟩, HO⟩, HR⟩
  iapply (wp_load 𝒱₀ (c : Thread nD τ) none Set.univ (m := bufM) hset) $$ Hslot; iintro Hslot
  iapply h
  isplitr [HR]
  · isplitr; · iexact Hrec
    isplitl [Hs]; · iexact Hs
    isplitl [Hslot Hz Hd]
    · isplitl [Hslot Hz]
      · isplitl [Hslot]; · iexact Hslot
        iexact Hz
      iexact Hd
    iexact HO
  · iexact HR

/-- The wait for the device's own transfer into slot `j` of another device: the share comes back. -/
theorem collect_step {c : Dev nD} {j : Fin 7} {S : Finset (Fin 7)} (hj : j ∈ S) {q : DmaSem sig} (hq : q = sendS j)
    {sp sp' : Space} {s s' : Shape} {e e' : EltTy} {a : Memref sig .tc sp' s' e'} {b : Memref sig .tc sp s e}
    {hsrc : a.view.WordExact} {hdst : b.view.WordExact} (hN : b.view.dmaCredit = N)
    {α : Type} {Q : α → sProp 𝕄} {R : sProp 𝕄} {k : PUnit → Prog (TpuEff nD τ sig (Elt F) Λ₀ .tc) α}
    (h : iprop((records m K ∗ collecting m c (S.erase j)) ∗ R) ⊢ runs c (k ⟨⟩) Q) :
    iprop((records m K ∗ collecting m c S) ∗ R) ⊢ runs c (.op (.waitDma2 q a b hsrc hdst) k) Q := by
  subst hq
  unfold collecting owesAny at h ⊢
  rw [compl_step, bigSep_put (not_mem_compl hj)] at h
  rw [bigSep_take hj]
  iintro ⟨⟨#Hrec, ⟨⟨Hat, Hc⟩, Hs⟩, Hd, ⟨%W, HO⟩⟩, HR⟩
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send]; exact hN)) $$ [Hc HO Hat]
  · isplitr; · iapply (inv_at m K (c, .inr (.inl j))); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (sched m) (Set.mem_univ (K (c, .inr (.inl j)))) (fun h => h) (R := 0 + 1) (duties_later m (sendCell c j))) $$ [Hat] with Hz
  · isplitr; · iapply (inv_at m K (c, .inr (.inl j))); iexact Hrec
    iexact Hat
  unfold sendPay
  iapply h
  isplitr [HR]
  · isplitr; · iexact Hrec
    isplitl [Hs]; · iexact Hs
    isplitl [Hp Hz Hd]
    · isplitl [Hp Hz]
      · isplitl [Hp]; · iexact Hp
        iexact Hz
      iexact Hd
    iexists _; iexact HO
  · iexact HR

end Cert.AllSum

end
-- ==== Proof.Parts.lean ====
/-
# The parts of the exchange

The kernel text does the exchange in eleven parts. Each theorem here says what one part turns into what: which signals are
given, which transfers begun, which slots waited for. `Q` is what has to be reached after the part.
-/
module

public import proofs.«01_k».proof.Proof.Steps
public import Idealize.ShloMosaic.Lib.VecWindow

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The order of the slots -/

/-- The slots from number `n` on. -/
abbrev upFrom (n : ℕ) : Finset (Fin 7) := Finset.univ.filter fun j => n ≤ j.val
/-- The slots below number `n`. -/
abbrev below (n : ℕ) : Finset (Fin 7) := Finset.univ.filter fun j => j.val < n

theorem upFrom_erase (j : Fin 7) : (upFrom j.val).erase j = upFrom (j.val + 1) := by revert j; decide
theorem below_erase (j : Fin 7) : (below (j.val + 1)).erase j = below j.val := by revert j; decide
theorem mem_upFrom (j : Fin 7) : j ∈ upFrom j.val := by revert j; decide
theorem mem_below (j : Fin 7) : j ∈ below (j.val + 1) := by revert j; decide
theorem not_mem_upFrom (j : Fin 7) : j ∉ upFrom (j.val + 1) := by revert j; decide

variable (m : (ℓ : Loc nD τ sig) → Buf (Elt F) ℓ) (K : Dev nD × Cell → ℕ)

/-- The offset of a whole buffer. -/
theorem zero2 : (![0, 0] : Fin 2 → Nat) = fun _ => 0 := funext fun a => by fin_cases a <;> rfl

section Next

variable {α : Type}

/-- A program that only returns `v`. -/
theorem runs_ret {Q : α → sProp 𝕄} {P : sProp 𝕄} {c : Dev nD} {v : α} (h : P ⊢ Q v) :
    P ⊢ runs c (.ret v : Prog (TpuEff nD τ sig (Elt F) Λ₀ .tc) α) Q := by
  unfold runs; rw [wp_ret]; exact h.trans fupd_intro

/-- The signal about slot `j`, when those about the lower slots are given. -/
theorem signal_next {Q : α → sProp 𝕄} {R : sProp 𝕄} {c n : Dev nD} (j : Fin 7) (hn : n = src j c) {k : PUnit → Prog (TpuEff nD τ sig (Elt F) Λ₀ .tc) α}
    (h : iprop((records m K ∗ signalling c (upFrom (j.val + 1))) ∗ R) ⊢ runs c (k ⟨⟩) Q) :
    iprop((records m K ∗ signalling c (upFrom j.val)) ∗ R)
      ⊢ runs c (.op (.semSignal (n : Thread nD τ) (SemArray.scalar (sig.barrier 0 rfl) : Sems sig S_).sem (1#32).toInt) k) Q :=
  signal_step m K (mem_upFrom j) hn rfl (by decide) (by rw [upFrom_erase]; exact h)

/-- The transfer into slot `j`, when those into the higher slots are begun. -/
theorem send_next {Q : α → sProp 𝕄} {R : sProp 𝕄} {c n : Dev nD} (j : Fin 7) (hn : n = dst j c)
    {hsc : (slotM j).view.ref.isScScratch = false} {hsrc : accM.view.WordExact} {hdst : (slotM j).view.WordExact}
    {hsem : DmaTarget.Typed .vmem (.dma (recvS j)) (.remote (Dev.tc n : Thread nD τ) (slotM j) (.dma (sendS j)) hsc)}
    {k : PUnit → Prog (TpuEff nD τ sig (Elt F) Λ₀ .tc) α}
    (h : iprop((records m K ∗ sending m c (below j.val)) ∗ R) ⊢ runs c (k ⟨⟩) Q) :
    iprop((records m K ∗ sending m c (below (j.val + 1))) ∗ R)
      ⊢ runs c (.op (.enqueueDma accM (.remote (Dev.tc n : Thread nD τ) (slotM j) (.dma (sendS j)) hsc) (.dma (recvS j)) hsrc hdst hsem) k) Q :=
  send_step m K (mem_below j) hn rfl rfl rfl (by rw [below_erase]; exact h)

/-- A slot counts as much as the running total. -/
theorem slot_credit (j : Fin 7) : (slotM j).view.dmaCredit = N := by fin_cases j <;> rfl

/-- The wait for slot `j`, when the lower slots are filled. -/
theorem recv_next {Q : α → sProp 𝕄} {R : sProp 𝕄} {c : Dev nD} (j : Fin 7) {hsrc : (slotM j).view.WordExact} {hdst : (slotM j).view.WordExact}
    {k : PUnit → Prog (TpuEff nD τ sig (Elt F) Λ₀ .tc) α}
    (h : iprop((records m K ∗ receiving m c (upFrom (j.val + 1))) ∗ R) ⊢ runs c (k ⟨⟩) Q) :
    iprop((records m K ∗ receiving m c (upFrom j.val)) ∗ R)
      ⊢ runs c (.op (.waitDma2 (recvS j) (slotM j) (slotM j) hsrc hdst) k) Q :=
  recv_step m K (mem_upFrom j) rfl (slot_credit j) (by rw [upFrom_erase]; exact h)

/-- The load of slot `j`, when it and the lower slots are filled. -/
theorem load_next {Q : α → sProp 𝕄} {R : sProp 𝕄} {c : Dev nD} (j : Fin 7) {hl : bufM.view.LoadsAt (slotR j).toLoadRect}
    {k : ((slotR j).toLoadRect.shape.Idx → Elt F .f32) → Prog (TpuEff nD τ sig (Elt F) Λ₀ .tc) α}
    (h : iprop((records m K ∗ receiving m c (upFrom (j.val + 1))) ∗ R)
      ⊢ runs c (k (bufM.view.readAt (Elt F) (slotR j).toLoadRect (landed m c))) Q) :
    iprop((records m K ∗ receiving m c (upFrom (j.val + 1))) ∗ R) ⊢ runs c (.op (.load bufM (slotR j).toLoadRect hl) k) Q :=
  load_slot_step m K (not_mem_upFrom j) rfl h

/-- The wait for the device's own transfer into slot `j`, when those into the higher slots are complete. -/
theorem collect_next {Q : α → sProp 𝕄} {R : sProp 𝕄} {c : Dev nD} (j : Fin 7) {hsrc : (slotM j).view.WordExact} {hdst : accM.view.WordExact}
    {k : PUnit → Prog (TpuEff nD τ sig (Elt F) Λ₀ .tc) α}
    (h : iprop((records m K ∗ collecting m c (below j.val)) ∗ R) ⊢ runs c (k ⟨⟩) Q) :
    iprop((records m K ∗ collecting m c (below (j.val + 1))) ∗ R)
      ⊢ runs c (.op (.waitDma2 (sendS j) (slotM j) accM hsrc hdst) k) Q :=
  collect_step m K (mem_below j) rfl rfl (by rw [below_erase]; exact h)

omit [FloatOps F] in
/-- Two statements change places before a third. -/
theorem swap (P A B : sProp 𝕄) : iprop(P ∗ A ∗ B) ⊢ iprop(A ∗ P ∗ B) := by
  iintro ⟨HP, HA, HB⟩
  isplitl [HA]; · iexact HA
  isplitl [HP] <;> iassumption

/-- The load of a whole buffer. -/
theorem load_whole {Q : α → sProp 𝕄} {P R : sProp 𝕄} {c : Dev nD} {q : PosShare TreeShare} {s : Shape} {b : Memref sig .tc .vmem s .f32}
    {X : s.Idx → Elt F .f32} {off : Fin s.rank → ℕ} {inb : ∀ a, off a + s.size a ≤ s.size a} {hl : b.view.LoadsAt (Rect.unit off s.size inb).toLoadRect}
    {k : (s.Idx → Elt F .f32) → Prog (TpuEff nD τ sig (Elt F) Λ₀ .tc) α}
    (h : iprop(P ∗ owns (c : Thread nD τ) b q X ∗ R) ⊢ runs c (k X) Q) :
    iprop(P ∗ owns (c : Thread nD τ) b q X ∗ R) ⊢ runs c (.op (.load b (Rect.unit off s.size inb).toLoadRect hl) k) Q := by
  have h' := (swap _ _ _).trans h
  refine (swap _ _ _).trans ?_
  unfold owns at h' ⊢
  iintro ⟨⟨%f, %hf, Hb⟩, HR⟩
  iapply (wp_load 𝒱₀ (c : Thread nD τ) none Set.univ (m := b) (View.setOn_subset_set _ _)) $$ Hb; iintro Hb
  rw [View.readAt_full, hf]
  iapply h'
  isplitl [Hb]
  · iexists f; isplitr; · (ipureintro; exact hf)
    iexact Hb
  iexact HR

/-- The store of a whole buffer. -/
theorem store_whole {Q : α → sProp 𝕄} {P R : sProp 𝕄} {c : Dev nD} {s : Shape} {b : Memref sig .tc .vmem s .f32}
    {X w : s.Idx → Elt F .f32} {off : Fin s.rank → ℕ} {inb : ∀ a, off a + s.size a ≤ s.size a}
    {hx : (b.access (Rect.unit off s.size inb)).Stores Finset.univ} {hm : Finset.univ = Finset.univ ∨ ∀ a, (Rect.unit off s.size inb).stride a = 1}
    {k : PUnit → Prog (TpuEff nD τ sig (Elt F) Λ₀ .tc) α}
    (h : iprop(P ∗ owns (c : Thread nD τ) b fullShare w ∗ R) ⊢ runs c (k ⟨⟩) Q) :
    iprop(P ∗ owns (c : Thread nD τ) b fullShare X ∗ R) ⊢ runs c (.op (.store b (Rect.unit off s.size inb) w Finset.univ hx hm) k) Q := by
  have h' := (swap _ _ _).trans h
  refine (swap _ _ _).trans ?_
  unfold owns at h' ⊢
  iintro ⟨⟨%f, %hf, Hb⟩, HR⟩
  iapply (wp_store 𝒱₀ (c : Thread nD τ) none Set.univ (m := b) (r := Rect.unit off s.size inb) (Mk := Finset.univ)
    (by rw [View.setOn_univ]; exact View.set_slice_subset _ _)) $$ Hb; iintro Hb
  iapply h'
  isplitl [Hb]
  · iexists _; isplitr
    rotate_left; · iexact Hb
    ipureintro
    rw [← View.readAt_full b.view _ inb]
    exact View.read_write_univ _ _
  iexact HR

end Next

/-! ## The parts -/

section Parts

variable (i : grid0.Coords) {a1 : Memref sig .tc .vmem S512x1024 .f32} (h1 : a1.IsWhole) {a2 : Memref sig .tc .vmem S1x1024 .f32} (h2 : a2.IsWhole)
  (h3 : accM.IsWhole) (h4 : bufM.IsWhole) {c : Dev nD}

/-- Part 1: the signals about slots 0 and 1. -/
theorem part1_step {R : sProp 𝕄} (hc : k0_cond3 i = 1#1) {Q : _ → sProp 𝕄}
    (h : ∀ v15 v43 v8 v44, iprop((records m K ∗ signalling c (upFrom 2)) ∗ R) ⊢ Q ⟨c, v15, SemArray.scalar (sig.barrier 0 rfl), v43, v8, v44⟩) :
    iprop((records m K ∗ signalling c (upFrom 0)) ∗ R) ⊢ runs c (k0_part1 i a1 h1 a2 h2 accM h3 bufM h4 cc0_scratch2 cc0_scratch3 hc) Q := by
  rw [k0_part1_eq_skeleton]; unfold k0_part1_skel
  simp only [semSignalWord, Prog.lift, Prog.bind_op, Prog.bind_ret, Prog.pure_eq_ret, wp_deviceId]
  refine signal_next m K 0 (dev1_eq c _) (signal_next m K 1 (dev2_eq c _) ?_)
  exact runs_ret (h _ _ _ _)

/-- Part 2: the signals about slots 2 and 3. -/
theorem part2_step {R : sProp 𝕄} (hc : k0_cond3 i = 1#1) (w15 w43 w8 : BitVec 32) (w44 : BitVec 1) {Q : _ → sProp 𝕄}
    (h : ∀ v, iprop((records m K ∗ signalling c (upFrom 4)) ∗ R) ⊢ Q v) :
    iprop((records m K ∗ signalling c (upFrom 2)) ∗ R)
      ⊢ runs c (k0_part2 i a1 h1 a2 h2 accM h3 bufM h4 cc0_scratch2 cc0_scratch3 hc c w15 (SemArray.scalar (sig.barrier 0 rfl)) w43 w8 w44) Q := by
  rw [k0_part2_eq_skeleton]; unfold k0_part2_skel
  simp only [semSignalWord, Prog.lift, Prog.bind_op, Prog.bind_ret, Prog.pure_eq_ret]
  refine signal_next m K 2 (dev3_eq c _) (signal_next m K 3 (dev4_eq c _) ?_)
  exact runs_ret (h _)

/-- Before the last part of the signals, what is held besides them: the place at the barrier and the credit to wait there. -/
def atBarrier (c : Dev nD) : sProp 𝕄 :=
  iprop(levAts L lv ∗ atPos ER (barCell c) 0 ∅ 0 ∗ cred (tallyAt (barCell c) () 7))

/-- After the barrier: the slots of the other devices, what is owed, and the barrier's counter at zero. -/
def pastBarrier (c : Dev nD) : sProp 𝕄 :=
  iprop(bigSep Finset.univ (barPay (F := F) c) ∗ semVal (barCell c) 0 ∗ owesAny c (oweSends c Finset.univ))

/-- With no signal left to give, the wait at the barrier. -/
theorem barrier_next {α : Type} {Q : α → sProp 𝕄} {R : sProp 𝕄} {k : PUnit → Prog (TpuEff nD τ sig (Elt F) Λ₀ .tc) α}
    (h : iprop((records m K ∗ pastBarrier c) ∗ R) ⊢ runs c (k ⟨⟩) Q) :
    iprop((records m K ∗ signalling c (upFrom 7)) ∗ (atBarrier c ∗ R))
      ⊢ runs c (.op (.semWait (SemArray.scalar (sig.barrier 0 rfl) : Sems sig S_).sem (7#32).toInt) k) Q := by
  have start : iprop((records m K ∗ signalling c (upFrom 7)) ∗ (atBarrier c ∗ R))
      ⊢ iprop((records m K ∗ levAts L lv ∗ atPos ER (barCell c) 0 ∅ 0 ∗ cred (tallyAt (barCell c) () 7)
          ∗ owesAny c (oweSends c Finset.univ + oweSignals c ∅)) ∗ R) := by
    rw [show upFrom 7 = ∅ by decide]
    unfold signalling atBarrier
    iintro ⟨⟨Hrec, -, HO⟩, ⟨Hl, Ha, Hc⟩, HR⟩
    isplitr [HR]
    · isplitl [Hrec]; · iexact Hrec
      isplitl [Hl]; · iexact Hl
      isplitl [Ha]; · iexact Ha
      isplitl [Hc]; · iexact Hc
      iexact HO
    · iexact HR
  exact start.trans (barrier_step m K rfl (by decide) h)

/-- Part 3: the signals about slots 4, 5 and 6, and the wait at the barrier. -/
theorem part3_step {R : sProp 𝕄} (hc : k0_cond3 i = 1#1) (w15 w72 : BitVec 32) (w77 : BitVec 1) (w78 : BitVec 32) {Q : BitVec 32 → sProp 𝕄}
    (h : ∀ v, iprop((records m K ∗ pastBarrier c) ∗ R) ⊢ Q v) :
    iprop((records m K ∗ signalling c (upFrom 4)) ∗ (atBarrier c ∗ R))
      ⊢ runs c (k0_part3 i a1 h1 a2 h2 accM h3 bufM h4 cc0_scratch2 cc0_scratch3 hc c w15 (SemArray.scalar (sig.barrier 0 rfl)) w72 w77 w78) Q := by
  rw [k0_part3_eq_skeleton]; unfold k0_part3_skel
  simp only [semSignalWord, semWaitWord, Prog.lift, Prog.bind_op, Prog.bind_ret, Prog.pure_eq_ret]
  refine signal_next m K 4 (dev5_eq c _) (signal_next m K 5 (dev6_eq c _) (signal_next m K 6 (dev7_eq c _) (barrier_next m K ?_)))
  exact runs_ret (h _)

/-- Part 4: the transfer into slot 6. -/
theorem part4_step {R : sProp 𝕄} (hc : k0_cond3 i = 1#1) (w15 w108 : BitVec 32) {Q : PUnit → sProp 𝕄}
    (h : iprop((records m K ∗ sending m c (below 6)) ∗ R) ⊢ Q ⟨⟩) :
    iprop((records m K ∗ sending m c (below 7)) ∗ R)
      ⊢ runs c (k0_part4 i a1 h1 a2 h2 accM h3 bufM h4 cc0_scratch2 cc0_scratch3 hc c w15 w108) Q := by
  rw [k0_part4_eq_skeleton]; unfold k0_part4_skel
  simp only [Prog.lift, Prog.bind_op, Prog.bind_ret, Prog.pure_eq_ret]
  refine send_next m K 6 (dev8_eq c _) ?_
  exact runs_ret h

/-- Part 5: the transfers into slots 5 and 4. -/
theorem part5_step {R : sProp 𝕄} (hc : k0_cond3 i = 1#1) (w15 : BitVec 32) {Q : BitVec 32 → sProp 𝕄}
    (h : ∀ v, iprop((records m K ∗ sending m c (below 4)) ∗ R) ⊢ Q v) :
    iprop((records m K ∗ sending m c (below 6)) ∗ R)
      ⊢ runs c (k0_part5 i a1 h1 a2 h2 accM h3 bufM h4 cc0_scratch2 cc0_scratch3 hc c w15) Q := by
  rw [k0_part5_eq_skeleton]; unfold k0_part5_skel
  simp only [Prog.lift, Prog.bind_op, Prog.bind_ret, Prog.pure_eq_ret]
  refine send_next m K 5 (dev9_eq c _) (send_next m K 4 (dev10_eq c _) ?_)
  exact runs_ret (h _)

/-- Part 6: the transfers into slots 3 and 2. -/
theorem part6_step {R : sProp 𝕄} (hc : k0_cond3 i = 1#1) (w15 w175 : BitVec 32) {Q : _ → sProp 𝕄}
    (h : ∀ v, iprop((records m K ∗ sending m c (below 2)) ∗ R) ⊢ Q v) :
    iprop((records m K ∗ sending m c (below 4)) ∗ R)
      ⊢ runs c (k0_part6 i a1 h1 a2 h2 accM h3 bufM h4 cc0_scratch2 cc0_scratch3 hc c w15 w175) Q := by
  rw [k0_part6_eq_skeleton]; unfold k0_part6_skel
  simp only [Prog.lift, Prog.bind_op, Prog.bind_ret, Prog.pure_eq_ret]
  refine send_next m K 3 (dev11_eq c _) (send_next m K 2 (dev12_eq c _) ?_)
  exact runs_ret (h _)

/-- Part 7: the transfers into slots 1 and 0, and the load of the device's own total. -/
theorem part7_step {R : sProp 𝕄} (hc : k0_cond3 i = 1#1) (w15 w205 w206 : BitVec 32) (w207 w208 : BitVec 1) {Q : Vec F S1x1024 .f32 → sProp 𝕄}
    (h : iprop((records m K ∗ sending m c (below 0)) ∗ owns (c : Thread nD τ) accM shareKept (total m c) ∗ R) ⊢ Q (total m c)) :
    iprop((records m K ∗ sending m c (below 2)) ∗ owns (c : Thread nD τ) accM shareKept (total m c) ∗ R)
      ⊢ runs c (k0_part7 i a1 h1 a2 h2 accM h3 bufM h4 cc0_scratch2 cc0_scratch3 hc c w15 w205 w206 w207 w208) Q := by
  rw [k0_part7_eq_skeleton]; unfold k0_part7_skel
  simp only [Prog.lift, Prog.bind_op, Prog.bind_ret, Prog.pure_eq_ret]
  refine send_next m K 1 (dev13_eq c _) (send_next m K 0 (dev14_eq c _) (load_whole ?_))
  exact runs_ret h

/-- Part 8: slots 0 and 1 received and added to the device's own total. -/
theorem part8_step {R : sProp 𝕄} (w15 : BitVec 32) (v : Vec F S1x1024 .f32) {Q : FVec F S1x1024 .f32 → sProp 𝕄}
    (h : iprop((records m K ∗ receiving m c (upFrom 2)) ∗ R)
      ⊢ Q (k0_pay4 v (bufM.view.readAt (Elt F) (slotR 0).toLoadRect (landed m c)) (bufM.view.readAt (Elt F) (slotR 1).toLoadRect (landed m c)))) :
    iprop((records m K ∗ receiving m c (upFrom 0)) ∗ R)
      ⊢ runs c (k0_part8 i a1 h1 a2 h2 accM h3 bufM h4 cc0_scratch2 cc0_scratch3 w15 v) Q := by
  rw [k0_part8_eq_skeleton]; unfold k0_part8_skel
  simp only [Prog.lift, Prog.bind_op, Prog.bind_ret, Prog.pure_eq_ret]
  refine recv_next m K 0 (load_next m K 0 (recv_next m K 1 (load_next m K 1 ?_)))
  exact runs_ret h

/-- Part 9: slots 2 and 3 received and added, and slot 4 received. -/
theorem part9_step {R : sProp 𝕄} (w15 : BitVec 32) (v : FVec F S1x1024 .f32) {Q : FVec F S1x1024 .f32 → sProp 𝕄}
    (h : iprop((records m K ∗ receiving m c (upFrom 5)) ∗ R)
      ⊢ Q (k0_pay5 v (bufM.view.readAt (Elt F) (slotR 2).toLoadRect (landed m c)) (bufM.view.readAt (Elt F) (slotR 3).toLoadRect (landed m c)))) :
    iprop((records m K ∗ receiving m c (upFrom 2)) ∗ R)
      ⊢ runs c (k0_part9 i a1 h1 a2 h2 accM h3 bufM h4 cc0_scratch2 cc0_scratch3 w15 v) Q := by
  rw [k0_part9_eq_skeleton]; unfold k0_part9_skel
  simp only [Prog.lift, Prog.bind_op, Prog.bind_ret, Prog.pure_eq_ret]
  refine recv_next m K 2 (load_next m K 2 (recv_next m K 3 (load_next m K 3 (recv_next m K 4 ?_))))
  exact runs_ret h

/-- Part 10: slots 5 and 6 received, and the sum of all slots stored to the output. -/
theorem part10_step {R : sProp 𝕄} (w15 : BitVec 32) (v : FVec F S1x1024 .f32) {X : Vec F S1x1024 .f32} {Q : PUnit → sProp 𝕄}
    (h : iprop((records m K ∗ receiving m c (upFrom 7)) ∗ owns (c : Thread nD τ) a2 fullShare
        (k0_pay6 v (bufM.view.readAt (Elt F) (slotR 4).toLoadRect (landed m c)) (bufM.view.readAt (Elt F) (slotR 5).toLoadRect (landed m c))
          (bufM.view.readAt (Elt F) (slotR 6).toLoadRect (landed m c))) ∗ R) ⊢ Q ⟨⟩) :
    iprop((records m K ∗ receiving m c (upFrom 5)) ∗ owns (c : Thread nD τ) a2 fullShare X ∗ R)
      ⊢ runs c (k0_part10 i a1 h1 a2 h2 accM h3 bufM h4 cc0_scratch2 cc0_scratch3 w15 v) Q := by
  rw [k0_part10_eq_skeleton]; unfold k0_part10_skel
  simp only [Prog.lift, Prog.bind_op, Prog.bind_ret, Prog.pure_eq_ret]
  refine load_next m K 4 (recv_next m K 5 (load_next m K 5 (recv_next m K 6 (load_next m K 6 (load_whole (store_whole ?_))))))
  exact runs_ret h

/-- Part 11: the device's own transfers into slots 6 to 2 are complete. -/
theorem part11_step {R : sProp 𝕄} {Q : PUnit → sProp 𝕄} (h : iprop((records m K ∗ collecting m c (below 2)) ∗ R) ⊢ Q ⟨⟩) :
    iprop((records m K ∗ collecting m c (below 7)) ∗ R)
      ⊢ runs c (k0_part11 i a1 h1 a2 h2 accM h3 bufM h4 cc0_scratch2 cc0_scratch3) Q := by
  rw [k0_part11_eq_skeleton]; unfold k0_part11_skel
  simp only [Prog.lift, Prog.bind_op, Prog.bind_ret, Prog.pure_eq_ret]
  refine collect_next m K 6 (collect_next m K 5 (collect_next m K 4 (collect_next m K 3 (collect_next m K 2 ?_))))
  exact runs_ret h

end Parts

end Cert.AllSum

end
-- ==== Proof.Phases.lean ====
/-
# From one phase of the exchange to the next

The exchange is four phases: a device signals about its slots and waits at the barrier, begins its seven transfers,
receives seven, and waits for its own to be complete. What a device holds at the end of a phase is regrouped here as what
the next begins with.
-/
module

public import proofs.«01_k».proof.Proof.Parts

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## What the exchange starts from -/

/-- The right to signal about each slot. -/
def barGhost (c : Dev nD) : sProp 𝕄 := bigSep Finset.univ fun j => dutyTok ER (barCell (src j c)) 0 j
/-- For each transfer out, the place at its sending semaphore. -/
def sendPlaces (c : Dev nD) : sProp 𝕄 := bigSep Finset.univ fun j => atPos ER (sendCell c j) 0 ∅ 0
/-- For each transfer out, the right to count on both its semaphores. -/
def sendToks (c : Dev nD) : sProp 𝕄 :=
  bigSep Finset.univ fun j => iprop(dutyTok ER (sendCell c j) 0 0 ∗ dutyTok ER (recvCell (dst j c) j) 0 0)
/-- For each transfer in, the place at its receiving semaphore and the credit to wait there. -/
def recvGhost (c : Dev nD) : sProp 𝕄 :=
  bigSep Finset.univ fun j => iprop(atPos ER (recvCell c j) 0 ∅ 0 ∗ cred (tallyAt (recvCell c j) () N))
/-- For each transfer out, the credit to wait for it. -/
def sendCreds (c : Dev nD) : sProp 𝕄 := bigSep Finset.univ fun j => cred (tallyAt (sendCell c j) () N)
/-- The sending semaphores at zero. -/
def sendZeros (c : Dev nD) : sProp 𝕄 := bigSep Finset.univ fun j => semVal (sendCell c j) 0
/-- The receiving semaphores at zero. -/
def recvZeros (c : Dev nD) : sProp 𝕄 := bigSep Finset.univ fun j => semVal (recvCell c j) 0
/-- The receive buffer, whatever it holds. -/
def bufAny (c : Dev nD) : sProp 𝕄 := iprop(∃ f, (((c : Thread nD τ).loc cc0_scratch1) ↦{fullShare} f))

omit [FloatOps F] in
/-- The running total, held whole. -/
theorem owns_acc (c : Dev nD) (q : PosShare TreeShare) (X : Vec F S1x1024 .f32) :
    (owns (Ix := Unit) (Name := ℕ) (U := UU) (Lvl := ℕ) (c : Thread nD τ) accM q X : sProp 𝕄) = accPts c q X := by
  have h₁ : (owns (Ix := Unit) (Name := ℕ) (U := UU) (Lvl := ℕ) (c : Thread nD τ) accM q X : sProp 𝕄) ⊢ accPts c q X := by
    unfold owns accPts
    iintro ⟨%f, %hf, H⟩
    have : f = X := (View.read_whole cc0_scratch0 f).symm.trans hf
    subst this; iexact H
  have h₂ : (accPts c q X : sProp 𝕄) ⊢ owns (Ix := Unit) (Name := ℕ) (U := UU) (Lvl := ℕ) (c : Thread nD τ) accM q X := by
    unfold owns accPts
    iintro H
    iexists X; isplitr; · (ipureintro; exact View.read_whole cc0_scratch0 X)
    iexact H
  exact BI.Entails.antisymm h₁ h₂

omit [FloatOps F] in
/-- The running total, held whole, is its eight shares. -/
theorem owns_acc_shares (c : Dev nD) (X : Vec F S1x1024 .f32) :
    (owns (Ix := Unit) (Name := ℕ) (U := UU) (Lvl := ℕ) (c : Thread nD τ) accM fullShare X : sProp 𝕄)
      = iprop((bigSep Finset.univ fun j => accPts c (shareOf j) X) ∗ accPts c shareKept X) := by
  rw [owns_acc, ← acc_shares]
  unfold accPts
  rw [show accM.view.set = Finset.univ from View.set_whole _]

theorem upFrom_zero : upFrom 0 = Finset.univ := by decide
theorem upFrom_seven : upFrom 7 = ∅ := by decide
theorem below_zero : below 0 = ∅ := by decide
theorem below_seven : below 7 = Finset.univ := by decide

omit [FloatOps F] in
/-- Slots that hold `f` hold something. -/
theorem slots_any (c : Dev nD) (f : Buf (Elt F) ((c : Thread nD τ).loc cc0_scratch1)) :
    (bigSep Finset.univ fun j => slotPts c j f : sProp 𝕄) ⊢ bigSep Finset.univ fun j => iprop(∃ f, slotPts c j f) :=
  bigSep_mono fun j _ => show slotPts c j f ⊢ iprop(∃ f, slotPts c j f) from by
    iintro H; iexists f; iexact H

/-! ## The passages -/

variable (c : Dev nD) (R : sProp 𝕄)

/-- The start: the receive buffer cut into its slots. -/
theorem enter_signals :
    iprop(bufAny c ∗ barGhost c ∗ owesAny c (oweAll c)) ⊢ (signalling c (upFrom 0) : sProp 𝕄) := by
  unfold bufAny barGhost signalling oweAll
  rw [upFrom_zero, bigSep_sep']
  iintro ⟨⟨%f, Hb⟩, Ht, HO⟩
  ihave Hs := (Entails.of_eq (buf_slots c f)) $$ Hb
  isplitl [Hs Ht]
  · isplitl [Hs]
    · iapply (slots_any c f); iexact Hs
    iexact Ht
  iexact HO

/-- After the barrier: the other devices' slots, and the running total cut into shares. -/
theorem enter_sends :
    iprop(pastBarrier c ∗ owns (c : Thread nD τ) accM fullShare (total m c) ∗ sendToks c)
      ⊢ iprop(sending m c (below 7) ∗ owns (c : Thread nD τ) accM shareKept (total m c) ∗ semVal (barCell c) 0) := by
  unfold pastBarrier sending sendNeed sendToks barPay
  rw [owns_acc_shares, owns_acc, below_seven, bigSep_sep', bigSep_sep', bigSep_sep', bigSep_sep', Finset.compl_univ, bigSep_empty]
  iintro ⟨⟨Hs, Hz, HO⟩, ⟨Ha, Hk⟩, HtS, HtR⟩
  isplitr [Hk Hz]
  · isplitl [Hs Ha HtS HtR]
    · isplitl [Hs]; · iexact Hs
      isplitl [Ha]; · iexact Ha
      isplitl [HtS] <;> iassumption
    isplitr; · iempintro
    iexact HO
  isplitl [Hk] <;> iassumption

/-- All transfers begun: the waits for the slots come next. -/
theorem enter_receives :
    iprop(sending m c (below 0) ∗ recvGhost c) ⊢ iprop(receiving m c (upFrom 0) ∗ sendCreds c) := by
  unfold sending receiving recvGhost sendCreds
  rw [below_zero, upFrom_zero, bigSep_empty, Finset.compl_univ, Finset.compl_empty, bigSep_empty, oweSends_empty]
  iintro ⟨⟨-, Hc, HO⟩, Hr⟩
  isplitr [Hc]
  · isplitl [Hr]; · iexact Hr
    isplitr; · iempintro
    iexact HO
  iexact Hc

/-- All slots received: the buffer is whole again, and the waits for the device's own transfers come next. -/
theorem enter_collects :
    iprop(receiving m c (upFrom 7) ∗ sendCreds c ∗ sendPlaces c) ⊢ iprop(collecting m c (below 7) ∗ bufAny c ∗ recvZeros c) := by
  unfold receiving collecting sendCreds sendPlaces bufAny recvZeros
  rw [upFrom_seven, below_seven, bigSep_empty, Finset.compl_univ, Finset.compl_empty, bigSep_empty, bigSep_sep', bigSep_sep', ← buf_slots]
  iintro ⟨⟨-, ⟨Hb, Hz⟩, HO⟩, Hc, Hp⟩
  isplitr [Hb Hz]
  · isplitl [Hc Hp]
    · isplitl [Hp] <;> iassumption
    isplitr; · iempintro
    iexact HO
  isplitl [Hb]; · iexists _; iexact Hb
  iexact Hz

/-- All done: the running total is whole again, and nothing is owed. -/
theorem leave_collects :
    iprop(collecting m c (below 0) ∗ owns (c : Thread nD τ) accM shareKept (total m c))
      ⊢ iprop(owns (c : Thread nD τ) accM fullShare (total m c) ∗ sendZeros c ∗ owesAny c 0) := by
  unfold collecting sendZeros
  rw [below_zero, owns_acc_shares, owns_acc, bigSep_empty, Finset.compl_empty, bigSep_sep']
  iintro ⟨⟨-, ⟨Ha, Hz⟩, HO⟩, Hk⟩
  isplitl [Ha Hk]
  · isplitl [Ha] <;> iassumption
  isplitl [Hz] <;> iassumption

end Cert.AllSum

end
-- ==== Proof.Body.lean ====
/-
# The body of the kernel at one grid point

At every grid point a device adds the column sums of its block of rows to the running total, the first point storing them
instead. The last point ends with the exchange. The theorems here say so of the kernel's body, with the staging buffers it
is called with.
-/
module

public import proofs.«01_k».proof.Proof.Phases

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The running total -/

/-- The running total after `n` grid points: nothing is known of it before the first. -/
def accAt (c : Dev nD) (n : ℕ) : sProp 𝕄 :=
  iprop(∃ X, ⌜∀ k h, n = k + 1 → X = accSum m c k h⌝ ∗ owns (c : Thread nD τ) accM fullShare X)

/-- The running total, opened. -/
theorem acc_open {c : Dev nD} {n : ℕ} {P R G : sProp 𝕄}
    (h : ∀ X, (∀ k h, n = k + 1 → X = accSum m c k h) → (iprop(P ∗ owns (c : Thread nD τ) accM fullShare X ∗ R) ⊢ G)) :
    iprop(P ∗ accAt m c n ∗ R) ⊢ G := by
  unfold accAt
  iintro ⟨HP, ⟨%X, %hX, Ha⟩, HR⟩
  iapply (h X hX)
  isplitl [HP]; · iexact HP
  isplitl [Ha] <;> iassumption

/-- The running total, closed. -/
theorem acc_close {c : Dev nD} {n : ℕ} {P R G : sProp 𝕄} {X : Vec F S1x1024 .f32} (hX : ∀ k h, n = k + 1 → X = accSum m c k h)
    (h : iprop(P ∗ accAt m c n ∗ R) ⊢ G) : iprop(P ∗ owns (c : Thread nD τ) accM fullShare X ∗ R) ⊢ G := by
  have h₁ : iprop(P ∗ owns (c : Thread nD τ) accM fullShare X ∗ R) ⊢ iprop(P ∗ accAt m c n ∗ R) := by
    unfold accAt
    iintro ⟨HP, Ha, HR⟩
    isplitl [HP]; · iexact HP
    isplitl [Ha]
    · iexists X; isplitr; · (ipureintro; exact hX)
      iexact Ha
    iexact HR
  exact h₁.trans h

/-- The whole running total. -/
abbrev accR : Rect S1x1024 := Rect.unit (s := S1x1024) ![0, 0] S1x1024.size inb_S1x1024_S1x1024_0_0

/-- At the first point the column sums are stored; elsewhere nothing happens. -/
theorem first_step {c : Dev nD} {n : ℕ} (hn : n < cfg0.N) {p : Prop} [Decidable p] (hp : Iff p (n = 0)) {P R : sProp 𝕄} {Q : PUnit → sProp 𝕄}
    {k : Prog (TpuEff nD τ sig (Elt F) Λ₀ .tc) PUnit} {hl : accM.view.LoadsAt accR.toLoadRect} {hx : (accM.access accR).Stores Finset.univ} {hm : Finset.univ = Finset.univ ∨ ∀ a, accR.stride a = 1}
    (h : iprop(P ∗ accAt m c (max n 1) ∗ R) ⊢ runs c k Q) :
    iprop(P ∗ accAt m c n ∗ R) ⊢ runs c
      (if _h : p then (.op (.load accM accR.toLoadRect hl) fun _ =>
          .op (.store accM accR (k0_pay2 (iblk m c (0 : Fin 2) ⟨n, hn⟩)) Finset.univ hx hm) fun _ => k)
        else k) Q := by
  split
  · rename_i hq
    have h0 := hp.mp hq
    subst h0
    refine acc_open m fun X _ => load_whole (store_whole (acc_close m (n := 1) ?_ (h)))
    intro k' hk e
    obtain rfl : k' = 0 := by omega
    rfl
  · rename_i hq
    have h0 : n ≠ 0 := fun e => hq (hp.mpr e)
    rw [show max n 1 = n by omega] at h
    exact h

/-- At the later points the column sums are added; at the first nothing happens. -/
theorem later_step {c : Dev nD} {n : ℕ} (hn : n < cfg0.N) {p : Prop} [Decidable p] (hp : Iff p (0 < n)) {P R : sProp 𝕄} {Q : PUnit → sProp 𝕄}
    {k : Prog (TpuEff nD τ sig (Elt F) Λ₀ .tc) PUnit} {hl hl' : accM.view.LoadsAt accR.toLoadRect} {hx : (accM.access accR).Stores Finset.univ} {hm : Finset.univ = Finset.univ ∨ ∀ a, accR.stride a = 1}
    (h : iprop(P ∗ accAt m c (n + 1) ∗ R) ⊢ runs c k Q) :
    iprop(P ∗ accAt m c (max n 1) ∗ R) ⊢ runs c
      (if _h : p then (.op (.load accM accR.toLoadRect hl) fun v => .op (.load accM accR.toLoadRect hl') fun _ =>
          .op (.store accM accR (k0_pay3 (iblk m c (0 : Fin 2) ⟨n, hn⟩) v) Finset.univ hx hm) fun _ => k)
        else k) Q := by
  split
  · rename_i hq
    obtain ⟨l, rfl⟩ : ∃ l, n = l + 1 := ⟨n - 1, by have := hp.mp hq; omega⟩
    rw [show max (l + 1) 1 = l + 1 by omega]
    refine acc_open m fun X hX => load_whole (load_whole (store_whole (acc_close m (n := l + 1 + 1) ?_ (h))))
    intro k' hk' e
    obtain rfl : k' = l + 1 := by omega
    rw [hX l (Nat.lt_of_succ_lt hn) rfl]
    rfl
  · rename_i hq
    have h0 : n = 0 := by
      by_contra h0; exact hq (hp.mpr (Nat.pos_of_ne_zero h0))
    subst h0
    exact h

/-! ## The conditions on the grid point -/

theorem cond_first : ∀ t : Fin grid0.N,
    Iff (Scalar.cmpi .ne (Scalar.extui (Scalar.cmpi .eq (BitVec.ofNat 32 (grid0.coords t 0).val) 0#32) : BitVec 32) 0#32 = 1#1) (t.val = 0) := by
  decide +kernel
theorem cond_later : ∀ t : Fin grid0.N,
    Iff (Scalar.cmpi .ne (Scalar.extui (Scalar.cmpi .sgt (BitVec.ofNat 32 (grid0.coords t 0).val) 0#32) : BitVec 32) 0#32 = 1#1) (0 < t.val) := by
  decide +kernel
theorem cond_last : ∀ t : Fin grid0.N, Iff (k0_cond3 (grid0.coords t) = 1#1) (t.val = 7) := by
  decide +kernel

/-! ## What a device holds between the grid points -/

/-- What a device holds for the exchange, until it begins. -/
def start (c : Dev nD) : sProp 𝕄 :=
  iprop((∃ K, records m K) ∗ atBarrier c ∗ barGhost c ∗ sendPlaces c ∗ sendToks c ∗ recvGhost c)

/-- What a device holds at the end: its scratch buffers, and its semaphores at zero. -/
def finish (c : Dev nD) : sProp 𝕄 :=
  iprop((∃ X, owns (c : Thread nD τ) accM fullShare X) ∗ bufAny c ∗ sendZeros c ∗ recvZeros c ∗ semVal (barCell c) 0)

/-- A program and what follows it. -/
theorem runs_bind {α β : Type} {c : Dev nD} {p : Prog (TpuEff nD τ sig (Elt F) Λ₀ .tc) α} {k : α → Prog (TpuEff nD τ sig (Elt F) Λ₀ .tc) β}
    {P : sProp 𝕄} {Q : β → sProp 𝕄} (h : P ⊢ runs c p fun a => runs c (k a) Q) : P ⊢ runs c (p >>= k) Q := by
  unfold runs at h ⊢; rw [wp_bind]; exact h

variable (K : Dev nD × Cell → ℕ)

/-- What the exchange begins with, as its first phase has it. -/
theorem begin_exchange (c : Dev nD) (P A : sProp 𝕄) :
    iprop((P ∗ records m K ∗ atBarrier c ∗ barGhost c ∗ sendPlaces c ∗ sendToks c ∗ recvGhost c)
        ∗ owns (c : Thread nD τ) accM fullShare (total m c) ∗ (bufAny c ∗ owesAny c (oweAll c) ∗ A))
      ⊢ iprop((records m K ∗ signalling c (upFrom 0))
        ∗ (atBarrier c ∗ (owns (c : Thread nD τ) accM fullShare (total m c) ∗ sendToks c ∗ sendPlaces c ∗ recvGhost c ∗ A ∗ P))) := by
  iintro ⟨⟨HP, Hr, Hb, Hg, Hp, Ht, Hv⟩, Ha, Hbuf, HO, HA⟩
  ihave Hs := (enter_signals (F := F) c) $$ [Hbuf Hg HO]
  · isplitl [Hbuf]; · iexact Hbuf
    isplitl [Hg] <;> iassumption
  isplitl [Hr Hs]
  · isplitl [Hr] <;> iassumption
  isplitl [Hb]; · iexact Hb
  isplitl [Ha]; · iexact Ha
  isplitl [Ht]; · iexact Ht
  isplitl [Hp]; · iexact Hp
  isplitl [Hv]; · iexact Hv
  isplitl [HA] <;> iassumption

/-- Past the barrier, the second phase. -/
theorem begin_sends (c : Dev nD) (A : sProp 𝕄) :
    iprop((records m K ∗ pastBarrier c) ∗ (owns (c : Thread nD τ) accM fullShare (total m c) ∗ sendToks c ∗ A))
      ⊢ iprop((records m K ∗ sending m c (below 7)) ∗ owns (c : Thread nD τ) accM shareKept (total m c) ∗ (semVal (barCell c) 0 ∗ A)) := by
  iintro ⟨⟨Hr, Hb⟩, Ha, Ht, HA⟩
  ihave Hs := (enter_sends m c) $$ [Hb Ha Ht]
  · isplitl [Hb]; · iexact Hb
    isplitl [Ha] <;> iassumption
  icases Hs with ⟨Hs, Hk, Hz⟩
  isplitl [Hr Hs]
  · isplitl [Hr] <;> iassumption
  isplitl [Hk]; · iexact Hk
  isplitl [Hz] <;> iassumption

/-- All transfers begun, the third phase. -/
theorem begin_receives (c : Dev nD) (B D S O P : sProp 𝕄) :
    iprop((records m K ∗ sending m c (below 0)) ∗ B ∗ (S ∗ D ∗ recvGhost c ∗ O ∗ P))
      ⊢ iprop((records m K ∗ receiving m c (upFrom 0)) ∗ (O ∗ (sendCreds c ∗ D ∗ B ∗ S ∗ P))) := by
  iintro ⟨⟨Hr, Hs⟩, HB, HS, HD, Hv, HO, HP⟩
  ihave H := (enter_receives m c) $$ [Hs Hv]
  · isplitl [Hs] <;> iassumption
  icases H with ⟨H, Hc⟩
  isplitl [Hr H]
  · isplitl [Hr] <;> iassumption
  isplitl [HO]; · iexact HO
  isplitl [Hc]; · iexact Hc
  isplitl [HD]; · iexact HD
  isplitl [HB]; · iexact HB
  isplitl [HS] <;> iassumption

/-- All slots received, the fourth phase. -/
theorem begin_collects (c : Dev nD) (O A : sProp 𝕄) :
    iprop((records m K ∗ receiving m c (upFrom 7)) ∗ O ∗ (sendCreds c ∗ sendPlaces c ∗ A))
      ⊢ iprop((records m K ∗ collecting m c (below 7)) ∗ (bufAny c ∗ recvZeros c ∗ O ∗ A)) := by
  iintro ⟨⟨Hr, Hs⟩, HO, Hc, Hp, HA⟩
  ihave H := (enter_collects m c) $$ [Hs Hc Hp]
  · isplitl [Hs]; · iexact Hs
    isplitl [Hc] <;> iassumption
  icases H with ⟨H, Hb, Hz⟩
  isplitl [Hr H]
  · isplitl [Hr] <;> iassumption
  isplitl [Hb]; · iexact Hb
  isplitl [Hz]; · iexact Hz
  isplitl [HO] <;> iassumption

/-- The exchange is done. -/
theorem end_exchange (c : Dev nD) (O P : sProp 𝕄) :
    iprop((records m K ∗ collecting m c (below 0))
        ∗ (bufAny c ∗ recvZeros c ∗ O ∗ (owns (c : Thread nD τ) accM shareKept (total m c) ∗ semVal (barCell c) 0 ∗ P)))
      ⊢ iprop(P ∗ finish c ∗ owesAny c 0 ∗ O) := by
  iintro ⟨⟨-, Hs⟩, Hb, Hv, HO, Hk, Hz, HP⟩
  ihave H := (leave_collects m c) $$ [Hs Hk]
  · isplitl [Hs] <;> iassumption
  icases H with ⟨Ha, Hzs, Ho⟩
  unfold finish
  isplitl [HP]; · iexact HP
  isplitr [HO Ho]
  · isplitl [Ha]; · iexists _; iexact Ha
    isplitl [Hb]; · iexact Hb
    isplitl [Hzs]; · iexact Hzs
    isplitl [Hv] <;> iassumption
  isplitl [Ho] <;> iassumption

/-! ## The body -/

/-- Four holdings, regrouped around the first. -/
theorem take_out (A G B R : sProp 𝕄) : iprop((A ∗ G) ∗ B ∗ R) ⊢ iprop((G ∗ B) ∗ A ∗ R) := by
  iintro ⟨⟨HA, HG⟩, HB, HR⟩
  isplitl [HG HB]; · (isplitl [HG] <;> iassumption)
  isplitl [HA] <;> iassumption

/-- Four holdings, grouped as before. -/
theorem put_back (A G B R : sProp 𝕄) : iprop((G ∗ B) ∗ A ∗ R) ⊢ iprop((A ∗ G) ∗ B ∗ R) := by
  iintro ⟨⟨HG, HB⟩, HA, HR⟩
  isplitl [HA HG]; · (isplitl [HA] <;> iassumption)
  isplitl [HB] <;> iassumption

section Body

variable {a1 : Memref sig .tc .vmem S512x1024 .f32} (h1 : a1.IsWhole) {a2 : Memref sig .tc .vmem S1x1024 .f32} (h2 : a2.IsWhole)
  (h3 : accM.IsWhole) (h4 : bufM.IsWhole)

/-- At a point before the last, the body adds the block to the running total and leaves all else. -/
theorem body_before_last (c : Dev nD) (t : Fin grid0.N) (ht : t.val ≠ 7) (R : sProp 𝕄) {Q : PUnit → sProp 𝕄}
    (h : iprop(owns (c : Thread nD τ) a1 fullShare (iblk m c (0 : Fin 2) t) ∗ accAt m c (t.val + 1) ∗ R) ⊢ Q ⟨⟩) :
    iprop(owns (c : Thread nD τ) a1 fullShare (iblk m c (0 : Fin 2) t) ∗ accAt m c t.val ∗ R)
      ⊢ runs c (cc0_body (grid0.coords t) a1 h1 a2 h2 accM h3 bufM h4 cc0_scratch2 cc0_scratch3) Q := by
  rw [cc0_body_eq_skeleton]; unfold cc0_body_skel
  simp only [Prog.lift, Prog.bind_op, Prog.bind_ret, Prog.pure_eq_ret]
  refine (swap _ _ _).trans (load_whole ((swap _ _ _).trans (first_step m t.isLt (cond_first t) (later_step m t.isLt (cond_later t) ?_))))
  rw [dif_neg (fun e => ht ((cond_last t).mp e))]
  exact runs_ret h

/-- At the last point, the body adds the block to the running total, exchanges the totals, and stores their sum to the output. -/
theorem body_last (c : Dev nD) (t : Fin grid0.N) (ht : t.val = 7) (X : Vec F S1x1024 .f32) {Q : PUnit → sProp 𝕄}
    (h : iprop(owns (c : Thread nD τ) a1 fullShare (iblk m c (0 : Fin 2) t) ∗ finish c ∗ owesAny c 0
        ∗ owns (c : Thread nD τ) a2 fullShare (outSum m c)) ⊢ Q ⟨⟩) :
    iprop((owns (c : Thread nD τ) a1 fullShare (iblk m c (0 : Fin 2) t)
          ∗ records m K ∗ atBarrier c ∗ barGhost c ∗ sendPlaces c ∗ sendToks c ∗ recvGhost c)
        ∗ accAt m c t.val ∗ (bufAny c ∗ owesAny c (oweAll c) ∗ owns (c : Thread nD τ) a2 fullShare X))
      ⊢ runs c (cc0_body (grid0.coords t) a1 h1 a2 h2 accM h3 bufM h4 cc0_scratch2 cc0_scratch3) Q := by
  rw [cc0_body_eq_skeleton]; unfold cc0_body_skel
  simp only [Prog.lift, Prog.bind_op, Prog.bind_ret, Prog.pure_eq_ret]
  refine (take_out _ _ _ _).trans (load_whole ((put_back _ _ _ _).trans (first_step m t.isLt (cond_first t) (later_step m t.isLt (cond_later t) ?_))))
  have hc := (cond_last t).mpr ht
  rw [dif_pos hc]
  refine acc_open m fun Y hY => ?_
  obtain rfl : Y = total m c := hY 7 (by decide) (by rw [ht])
  refine (begin_exchange m K c _ _).trans ?_
  refine runs_bind (part1_step m K _ h1 h2 h3 h4 hc fun w15 w43 w8 w44 => ?_)
  refine runs_bind (part2_step m K _ h1 h2 h3 h4 hc _ _ _ _ fun v => ?_)
  refine runs_bind (part3_step m K _ h1 h2 h3 h4 hc _ _ _ _ fun v => ?_)
  refine (begin_sends m K c _).trans ?_
  refine runs_bind (part4_step m K _ h1 h2 h3 h4 hc _ _ ?_)
  refine runs_bind (part5_step m K _ h1 h2 h3 h4 hc _ fun v => ?_)
  refine runs_bind (part6_step m K _ h1 h2 h3 h4 hc _ _ fun v => ?_)
  refine runs_bind (part7_step m K _ h1 h2 h3 h4 hc _ _ _ _ _ ?_)
  refine (begin_receives m K c _ _ _ _ _).trans ?_
  refine runs_bind (part8_step m K _ h1 h2 h3 h4 _ _ ?_)
  refine runs_bind (part9_step m K _ h1 h2 h3 h4 _ _ ?_)
  refine runs_bind (part10_step m K _ h1 h2 h3 h4 _ _ ?_)
  refine (begin_collects m K c _ _).trans ?_
  refine runs_bind (part11_step m K _ h1 h2 h3 h4 ?_)
  refine collect_next m K 1 (collect_next m K 0 ?_)
  exact (end_exchange m K c _ _).trans (runs_ret h)

end Body

end Cert.AllSum

end
-- ==== Proof.Obligation.lean ====
/-
# The kernel as a pipeline over its grid

What a device holds between two grid points, what its two windows hold, and that the kernel's body takes each point to
the next.
-/
module

public import proofs.«01_k».proof.Proof.Body

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What a device holds after `n` grid points. -/
def between (c : Dev nD) (n : ℕ) : sProp 𝕄 :=
  if n = 8 then finish c else iprop(start m c ∗ accAt m c n ∗ bufAny c)

/-- The two windows' contents and what a device holds and owes, point by point. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => outSum m c
  Φ t := between m c t.val
  q _ := fullShare
  owed t := if t.val = 8 then 0 else oweAll c

theorem before_in (c : Dev nD) (t : Fin cfg0.N) (d) : (dats m 0 c).before (0 : Fin 2) t d = iblk m c 0 t := by
  unfold Dat.before; rw [if_pos (fetch0_0 t)]; rfl

/-- The output's window is left alone before the last point. -/
theorem idle_out : ∀ t : Fin cfg0.N, t.val ≠ 7 → cfg0.idle (1 : Fin 2) (cfg0.grid.coords t) = true := by decide +kernel
theorem used_out : ∀ t : Fin cfg0.N, t.val = 7 → cfg0.idle (1 : Fin 2) (cfg0.grid.coords t) = false := by decide +kernel
theorem kept_out (t : Fin cfg0.N) (ht : t.val ≠ 7) : (cfg0.win (1 : Fin 2)).flush t = false := by
  have := (flush0_1 t).not.mpr (by have := lt_of_lt_of_eq t.isLt N_0; omega)
  exact Bool.eq_false_iff.mpr this

theorem owes_in (c : Dev nD) (t : Fin cfg0.N) (h : t.val ≠ 8) : (dats m 0 c).owesAt () t.castSucc ⊢ owesAny c (oweAll c) := by
  unfold Dat.owesAt Pipeline.owesWithin owesAny
  rw [show (dats m 0 c).owed t.castSucc = oweAll c from if_neg h]
  iintro ⟨%W, -, H⟩
  iexists W; iexact H

theorem owes_out (c : Dev nD) (t : Fin cfg0.N) (O : CellTallies nD τ sig Unit) (h : (dats m 0 c).owed t.succ = O) :
    owesAny c O ⊢ (dats m 0 c).owesAt () t.succ := by
  unfold Dat.owesAt Pipeline.owesWithin owesAny
  rw [h]
  iintro ⟨%W, H⟩
  iexists W; isplitr; · (ipureintro; exact fun _ _ => Or.inl trivial)
  iexact H

/-- Before the last point: what the body starts from, and what it leaves. -/
theorem enter_point (c : Dev nD) (t : Fin cfg0.N) (ht : t.val < 8) (B : sProp 𝕄) :
    iprop((dats m 0 c).Φ t.castSucc ∗ (dats m 0 c).owesAt () t.castSucc
        ∗ (∃ d, owns (c : Thread nD τ) (st0_0 t) fullShare ((dats m 0 c).before (0 : Fin 2) t d)) ∗ B)
      ⊢ iprop(owns (c : Thread nD τ) (st0_0 t) fullShare (iblk m c (0 : Fin 2) t) ∗ accAt m c t.val
        ∗ (start m c ∗ bufAny c ∗ owesAny c (oweAll c) ∗ B)) := by
  rw [show (dats m 0 c).Φ t.castSucc = iprop(start m c ∗ accAt m c t.val ∗ bufAny c) from if_neg (show ¬ t.val = 8 by omega)]
  simp only [before_in]
  iintro ⟨⟨Hs, Ha, Hb⟩, HO, ⟨%d, Hx⟩, HB⟩
  ihave HO := (owes_in m c t (by omega)) $$ HO
  isplitl [Hx]; · iexact Hx
  isplitl [Ha]; · iexact Ha
  isplitl [Hs]; · iexact Hs
  isplitl [Hb]; · iexact Hb
  isplitl [HO] <;> iassumption

theorem leave_point (c : Dev nD) (t : Fin cfg0.N) (ht : t.val ≠ 7) (B : sProp 𝕄) :
    iprop(owns (c : Thread nD τ) (st0_0 t) fullShare (iblk m c (0 : Fin 2) t) ∗ accAt m c (t.val + 1)
        ∗ (start m c ∗ bufAny c ∗ owesAny c (oweAll c) ∗ B))
      ⊢ iprop((dats m 0 c).Φ t.succ ∗ (dats m 0 c).owesAt () t.succ
        ∗ owns (c : Thread nD τ) (st0_0 t) fullShare (iblk m c (0 : Fin 2) t) ∗ B) := by
  rw [show (dats m 0 c).Φ t.succ = iprop(start m c ∗ accAt m c (t.val + 1) ∗ bufAny c) from
    if_neg (show ¬ t.val + 1 = 8 by omega)]
  iintro ⟨Hx, Ha, Hs, Hb, HO, HB⟩
  ihave HO := (owes_out m c t (oweAll c) (if_neg (show ¬ t.val + 1 = 8 by omega))) $$ HO
  isplitl [Hs Ha Hb]
  · isplitl [Hs]; · iexact Hs
    isplitl [Ha] <;> iassumption
  isplitl [HO]; · iexact HO
  isplitl [Hx] <;> iassumption

/-- After the last point. -/
theorem leave_last (c : Dev nD) (t : Fin cfg0.N) (ht : t.val = 7) (B : sProp 𝕄) :
    iprop(owns (c : Thread nD τ) (st0_0 t) fullShare (iblk m c (0 : Fin 2) t) ∗ finish c ∗ owesAny c 0 ∗ B)
      ⊢ iprop((dats m 0 c).Φ t.succ ∗ (dats m 0 c).owesAt () t.succ
        ∗ owns (c : Thread nD τ) (st0_0 t) fullShare (iblk m c (0 : Fin 2) t) ∗ B) := by
  rw [show (dats m 0 c).Φ t.succ = finish c from if_pos (show t.val + 1 = 8 by omega)]
  iintro ⟨Hx, Hf, HO, HB⟩
  ihave HO := (owes_out m c t 0 (if_pos (show t.val + 1 = 8 by omega))) $$ HO
  isplitl [Hf]; · iexact Hf
  isplitl [HO]; · iexact HO
  isplitl [Hx] <;> iassumption

/-- The last point's holdings, with the output's buffer open, as the exchange has them. -/
theorem open_last (c : Dev nD) (t : Fin cfg0.N) {G : sProp 𝕄} {A : sProp 𝕄} {D : Type} {Y : D → Vec F S1x1024 .f32}
    (h : ∀ K d, iprop((A ∗ records m K ∗ atBarrier c ∗ barGhost c ∗ sendPlaces c ∗ sendToks c ∗ recvGhost c)
        ∗ accAt m c t.val ∗ (bufAny c ∗ owesAny c (oweAll c) ∗ owns (c : Thread nD τ) (st0_1 t) fullShare (Y d))) ⊢ G) :
    iprop(A ∗ accAt m c t.val ∗ (start m c ∗ bufAny c ∗ owesAny c (oweAll c)
        ∗ ∃ d, owns (c : Thread nD τ) (st0_1 t) fullShare (Y d))) ⊢ G := by
  unfold start
  iintro ⟨HA, Ha, ⟨⟨%K, Hr⟩, Hs⟩, Hb, HO, ⟨%d, Ho⟩⟩
  iapply (h K d)
  isplitl [HA Hr Hs]
  · isplitl [HA]; · iexact HA
    isplitl [Hr] <;> iassumption
  isplitl [Ha]; · iexact Ha
  isplitl [Hb]; · iexact Hb
  isplitl [HO] <;> iassumption

/-- The body at every point. -/
theorem body_obligation (c : Dev nD) : BodyObligation (dats m 0 c) (defs₀ (F := F)) 𝒱₀ () Set.univ := fun t => by
  have ht8 : t.val < 8 := lt_of_lt_of_eq t.isLt N_0
  rw [bigSep_W0, bigSep_W0]
  show _ ⊢ runs c (bodyAt0 t) _
  refine (enter_point m c t ht8 _).trans ?_
  by_cases ht : t.val = 7
  · rw [used_out t ht]
    exact open_last m c t fun K d => body_last m K _ _ _ _ c t ht _ (leave_last m c t ht _)
  · rw [idle_out t ht, kept_out t ht]
    exact body_before_last m _ _ _ _ c t ht _ (leave_point m c t ht _)

end Cert.AllSum

end
-- ==== Proof.Deal.lean ====
/-
# What the devices start with

Before the kernel starts, each semaphore of the exchange gets its invariant, and the rights to count on it are dealt to
the devices that will: the right about slot `j` on a barrier, to `dst j` of its device; the right to fill a slot, to the
device that sends into it.
-/
module

public import proofs.«01_k».proof.Proof.Obligation
public import Idealize.ShloMosaic.Lib.Pipeline.Launch
public import Idealize.ShloMosaic.Lib.Pipeline.Kit

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The semaphores and the rights to count on them -/

/-- The kernel's own semaphores. -/
abbrev osem : Fin 7 ⊕ Fin 7 → SemLoc sig
  | .inl j => .dma (sendS j)
  | .inr j => .dma (recvS j)
theorem ownSemFacts : Pipeline.OwnSemFacts cfg0.spec osem := by decide

theorem semOf_injective : Function.Injective semOf := by
  rintro (_ | j | j) (_ | j' | j') h
  · rfl
  · exact absurd h.symm (send_ne_bar j')
  · exact absurd h.symm (recv_ne_bar j')
  · exact absurd h (send_ne_bar j)
  · rw [send_inj h]
  · exact absurd h (send_ne_recv j j')
  · exact absurd h (recv_ne_bar j)
  · exact absurd h.symm (send_ne_recv j' j)
  · rw [recv_inj h]
theorem cellAt_injective : Function.Injective (cellAt : Dev nD × Cell → GSem nD τ sig) := by
  rintro ⟨c, k⟩ ⟨c', k'⟩ h
  have h1 : c = c' := congrArg (fun g : GSem nD τ sig => g.1.1) h
  have h2 : k = k' := semOf_injective (congrArg Prod.snd h)
  rw [h1, h2]
/-- All semaphores of the exchange, on all devices. -/
def exCells : Finset (GSem nD τ sig) := Finset.univ.map ⟨cellAt, cellAt_injective⟩

/-- The rights on one device's semaphores: seven on its barrier, one on each of the others. -/
abbrev Right : Type := Fin 7 ⊕ Fin 7 ⊕ Fin 7
abbrev rightAt (cx : Dev nD × Right) : GSem nD τ sig × ℕ × Fin 7 :=
  match cx.2 with
  | .inl j => (barCell cx.1, 0, j)
  | .inr (.inl j) => (sendCell cx.1 j, 0, 0)
  | .inr (.inr j) => (recvCell cx.1 j, 0, 0)
theorem rightAt_injective : Function.Injective (rightAt : Dev nD × Right → GSem nD τ sig × ℕ × Fin 7) := by
  rintro ⟨c, x⟩ ⟨c', x'⟩ h
  have hc : c = c' := by
    have := congrArg (fun y : GSem nD τ sig × ℕ × Fin 7 => y.1.1.1) h
    rcases x with j | j | j <;> rcases x' with j' | j' | j' <;> exact this
  have hs := congrArg (fun y : GSem nD τ sig × ℕ × Fin 7 => y.1.2) h
  have hd := congrArg (fun y : GSem nD τ sig × ℕ × Fin 7 => y.2.2) h
  rw [hc]
  rcases x with j | j | j <;> rcases x' with j' | j' | j'
  · rw [show j = j' from hd]
  · exact absurd hs.symm (send_ne_bar j')
  · exact absurd hs.symm (recv_ne_bar j')
  · exact absurd hs (send_ne_bar j)
  · rw [send_inj hs]
  · exact absurd hs (send_ne_recv j j')
  · exact absurd hs (recv_ne_bar j)
  · exact absurd hs.symm (send_ne_recv j' j)
  · rw [recv_inj hs]
def exRights : Finset (GSem nD τ sig × ℕ × Fin 7) := Finset.univ.map ⟨rightAt, rightAt_injective⟩

/-- The state that the pipeline and the exchange start with. -/
def u₀ : UU :=
  (initOf (Pipeline.cells cfgs cellOf_inj) (Pipeline.launchToks cfgs cellOf_inj), initOf exCells exRights)

/-- The rights on the semaphores of device `c`. -/
def rights (c : Dev nD) : sProp 𝕄 :=
  iprop((bigSep Finset.univ fun j : Fin 7 => dutyTok ER (barCell c) 0 j)
    ∗ (bigSep Finset.univ fun j : Fin 7 => dutyTok ER (sendCell c j) 0 0)
    ∗ bigSep Finset.univ fun j : Fin 7 => dutyTok ER (recvCell c j) 0 0)

/-- What device `c` gets of the exchange's state: its semaphores' rounds, its places there, and the rights on them. -/
def G (c : Dev nD) : sProp 𝕄 :=
  iprop((bigSep Finset.univ fun k : Cell => roundState ER (sched m) (cellAt (c, k)) 0)
    ∗ (bigSep Finset.univ fun k : Cell => iprop(atPos ER (cellAt (c, k)) 0 ∅ 0 ∗ reached ER (cellAt (c, k)) 0)) ∗ rights c)

/-- What a device's part of the exchange starts with, but for the credits. -/
def G' (c : Dev nD) : sProp 𝕄 :=
  iprop((∃ K, records m K) ∗ atPos ER (barCell c) 0 ∅ 0 ∗ barGhost c ∗ sendPlaces c ∗ sendToks c
    ∗ bigSep Finset.univ fun j => atPos ER (recvCell c j) 0 ∅ 0)

/-- A conjunction over a device's semaphores. -/
theorem bigSep_cell (Φ : Cell → sProp 𝕄) : bigSep Finset.univ Φ
    = iprop(Φ (.inl ()) ∗ (bigSep Finset.univ fun j : Fin 7 => Φ (.inr (.inl j))) ∗ bigSep Finset.univ fun j : Fin 7 => Φ (.inr (.inr j))) := by
  rw [bigSep_univ_sum, bigSep_univ_sum, bigSep_univ_of_subsingleton ()]; rfl

/-- The exchange's state, dealt by device. -/
theorem fund_exchange : BI.own (ER (initOf exCells exRights)) ⊢ (|==> bigSep Finset.univ (G m) : sProp 𝕄) := by
  have hX (Φ : GSem nD τ sig → sProp 𝕄) : bigSep exCells Φ = bigSep Finset.univ fun c : Dev nD => bigSep Finset.univ fun k : Cell => Φ (cellAt (c, k)) := by
    unfold exCells; rw [bigSep_map, bigSep_univ_prod]; rfl
  have hT : bigSep exRights (fun x => (dutyTok ER x.1 x.2.1 x.2.2 : sProp 𝕄)) = bigSep Finset.univ fun c : Dev nD => rights c := by
    unfold exRights; rw [bigSep_map, bigSep_univ_prod]
    exact bigSep_congr fun c _ => by unfold rights; rw [bigSep_univ_sum, bigSep_univ_sum]; rfl
  iintro HX
  imod (Rounds.fund ER (sched m) exCells exRights) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

/-- The kernel's own semaphores are the seven sending and the seven receiving ones. -/
theorem ownSems0_eq (c : Dev nD) : (Pipeline.ownSems0 (Ix := Unit) (Name := ℕ) (U := UU) (Lvl := ℕ) (Val := Elt F) (τ := τ) osem c : sProp 𝕄)
    = iprop(sendZeros c ∗ recvZeros c) := by
  unfold Pipeline.ownSems0 sendZeros recvZeros; rw [bigSep_univ_sum]; rfl
/-- The barrier is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (cellAt (c, k)) 0 : sProp 𝕄) := by
  rw [ownSems0_eq, unscopedSems0_eq, bigSep_cell]
  unfold sendZeros recvZeros
  iintro ⟨⟨HS, HV⟩, HB⟩
  isplitl [HB]; · iexact HB
  isplitl [HS] <;> iassumption

/-- A device's semaphores at zero, with their rounds, become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cellAt (c, k))))
          ∗ (bigSep Finset.univ fun k => iprop(atPos ER (cellAt (c, k)) 0 ∅ 0 ∗ reached ER (cellAt (c, k)) 0)) ∗ rights c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (cellAt (c, k)) 0) ∗ bigSep Finset.univ fun k : Cell => roundState ER (sched m) (cellAt (c, k)) 0)
      ⊢ (|={Set.univ}=> bigSep Finset.univ fun k => iprop(∃ κ : ℕ, cellInv ER (sched m) κ (cellAt (c, k))) : sProp 𝕄) from by
        rw [← bigSep_sep']
        exact (bigSep_mono fun k _ => (Rounds.body_intro ER (sched m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights, dealt -/

/-- What is held once per device, slot by slot, may be held by each slot's other device instead. -/
theorem deal (e : Fin 7 → Dev nD ≃ Dev nD) (Φ : Dev nD → Fin 7 → sProp 𝕄) :
    (bigSep Finset.univ fun c : Dev nD => bigSep Finset.univ fun j => Φ c j)
      = bigSep Finset.univ fun c : Dev nD => bigSep Finset.univ fun j => Φ (e j c) j := by
  rw [bigSep_univ_comm, bigSep_univ_comm (fun c j => Φ (e j c) j)]
  exact bigSep_congr fun j _ => bigSep_univ_equiv (e j) fun c => Φ c j

/-- The rights go to the devices that use them. -/
theorem rights_dealt : (bigSep Finset.univ fun c : Dev nD => (rights c : sProp 𝕄))
    ⊢ bigSep Finset.univ fun c : Dev nD => iprop(barGhost c ∗ sendToks c) := by
  unfold rights barGhost sendToks
  simp only [bigSep_sep']
  rw [deal (fun j => (perm j).symm) fun c j => (dutyTok ER (barCell c) 0 j : sProp 𝕄),
    deal perm fun c j => (dutyTok ER (recvCell c j) 0 0 : sProp 𝕄)]
  exact .rfl

/-- What stays with a device: its places, and the rights that it uses. -/
def kept (c : Dev nD) : sProp 𝕄 :=
  iprop((bigSep Finset.univ fun k : Cell => atPos ER (cellAt (c, k)) 0 ∅ 0) ∗ (barGhost c ∗ sendToks c))

theorem ghost_intro (K : Dev nD × Cell → ℕ) (c : Dev nD) : iprop(records m K ∗ kept c) ⊢ G' m c := by
  unfold kept G' sendPlaces
  rw [bigSep_cell]
  iintro ⟨HR, ⟨HaB, HaS, HaV⟩, Hb, Hs⟩
  isplitl [HR]; · (iexists K; iexact HR)
  isplitl [HaB]; · iexact HaB
  isplitl [Hb]; · iexact Hb
  isplitl [HaS]; · iexact HaS
  isplitl [Hs]; · iexact Hs
  iexact HaV

theorem regroup :
    (bigSep Finset.univ fun c : Dev nD => iprop((bigSep Finset.univ fun k => iprop(∃ κ : ℕ, cellInv ER (sched m) κ (cellAt (c, k))))
          ∗ (bigSep Finset.univ fun k => iprop(atPos ER (cellAt (c, k)) 0 ∅ 0 ∗ reached ER (cellAt (c, k)) 0)) ∗ rights c) : sProp 𝕄)
      ⊢ bigSep Finset.univ (G' m) := by
  rw [bigSep_sep', bigSep_sep', ← bigSep_univ_prod (fun ck : Dev nD × Cell => iprop(∃ κ : ℕ, cellInv ER (sched m) κ (cellAt ck))),
    bigSep_congr (s := Finset.univ) (fun (c : Dev nD) _ => bigSep_sep' Finset.univ (fun k : Cell => (atPos ER (cellAt (c, k)) 0 ∅ 0 : sProp 𝕄)) (fun k => reached ER (cellAt (c, k)) 0)),
    bigSep_sep', ← bigSep_univ_prod (fun ck : Dev nD × Cell => (reached ER (cellAt ck) 0 : sProp 𝕄))]
  iintro ⟨HI, ⟨Hat, #HR⟩, Htok⟩
  ihave HK := (BI.bigSep_exists_pi Finset.univ (fun (ck : Dev nD × Cell) (κ : ℕ) => (cellInv ER (sched m) κ (cellAt ck) : sProp 𝕄))) $$ HI
  icases HK with ⟨%K, #HI⟩
  ihave Htk := (rights_dealt (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Cell => (atPos ER (cellAt (c, k)) 0 ∅ 0 : sProp 𝕄))
      (fun c => iprop(barGhost c ∗ sendToks c))).symm)
    isplitl [Hat]; · iexact Hat
    iexact Htk

/-- All devices at once: semaphores at zero become what the exchange starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.AllSum

end
-- ==== Proof.Launch.lean ====
/-
# The run of the whole program

From any memory with all counters at zero, the program runs to its end on every device: the arrays then hold what the
pipeline leaves in them, and every counter is at zero again.
-/
module

public import proofs.«01_k».proof.Proof.Deal
public import Idealize.ShloMosaic.Lib.Pipeline.CollectiveSegs

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

theorem bar_iff {a b : Dev nD} : Iff (barCell a = barCell b) (a = b) :=
  ⟨fun h => congrArg (fun g : GSem nD τ sig => g.1.1) h, fun h => h ▸ rfl⟩
theorem recv_iff {a b : Dev nD} {i j : Fin 7} : Iff (recvCell a i = recvCell b j) (a = b ∧ i = j) :=
  ⟨fun h => ⟨congrArg (fun g : GSem nD τ sig => g.1.1) h, recv_inj (congrArg Prod.snd h)⟩, fun ⟨h, h'⟩ => by rw [h, h']⟩

/-- What device `d` owes the barrier of `c`: one unit for each slot of its own that `c` fills. -/
theorem owed_bar (d c : Dev nD) : oweAll d (barCell c) () = ∑ j : Fin 7, if d = dst j c then 1 else 0 := by
  unfold oweAll oweSends oweSignals
  rw [Pi.add_apply, Finsupp.add_apply, Finset.sum_apply, Finset.sum_apply, Finsupp.finset_sum_apply, Finsupp.finset_sum_apply,
    Finset.sum_eq_zero fun j _ => by rw [tallyAt_ne_cell (fun h => recv_ne_bar j (congrArg Prod.snd h).symm)]; rfl, Nat.zero_add]
  refine Finset.sum_congr rfl fun j _ => ?_
  rw [tallyAt_apply]
  by_cases h : d = dst j c
  · subst h; rw [src_dst, if_pos ⟨rfl, rfl⟩, if_pos rfl]
  · rw [if_neg (fun ⟨h1, _⟩ => h (by rw [bar_iff.mp h1, dst_src])), if_neg h]

/-- What device `d` owes the receiving semaphore of slot `j` of `c`: the transfer, if it is the slot's sender. -/
theorem owed_recv (d c : Dev nD) (j : Fin 7) : oweAll d (recvCell c j) () = if d = src j c then N else 0 := by
  unfold oweAll oweSends oweSignals
  rw [Pi.add_apply, Finsupp.add_apply, Finset.sum_apply, Finset.sum_apply, Finsupp.finset_sum_apply, Finsupp.finset_sum_apply,
    Finset.sum_eq_zero (f := fun i => (tallyAt (barCell (src i d)) () 1 : CellTallies nD τ sig Unit) (recvCell c j) ())
      fun i _ => by rw [tallyAt_ne_cell (fun h => recv_ne_bar j (congrArg Prod.snd h))]; rfl, Nat.add_zero]
  rw [Finset.sum_eq_single j (fun i _ hi => by rw [tallyAt_apply, if_neg fun ⟨h, _⟩ => hi (recv_iff.mp h).2.symm])
    (fun h => absurd (Finset.mem_univ _) h), tallyAt_apply]
  by_cases h : d = src j c
  · subst h; rw [dst_src, if_pos ⟨rfl, rfl⟩, if_pos rfl]
  · rw [if_neg (fun ⟨h1, _⟩ => h (by rw [(recv_iff.mp h1).1, src_dst])), if_neg h]

theorem credit_bar (c : Dev nD) :
    tallyOn (barCell c) (launchCredit (Pipeline.owing oweAll) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (j : Fin 7) _ => by rw [Finset.sum_ite_eq' Finset.univ (dst j c) fun _ => 1, if_pos (Finset.mem_univ _)],
    Finset.sum_const, Finset.card_univ, Fintype.card_fin, smul_eq_mul]

theorem credit_recv (c : Dev nD) (j : Fin 7) :
    tallyOn (recvCell c j) (launchCredit (Pipeline.owing oweAll) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (src j c) fun _ => N, if_pos (Finset.mem_univ _)]

/-- A device's credits: seven units at its barrier, and one transfer at each receiving semaphore. -/
theorem creds (c : Dev nD) : (Pipeline.launchCred oweAll c : sProp 𝕄)
    ⊢ iprop(cred (tallyAt (barCell c) () 7) ∗ bigSep Finset.univ fun j => cred (tallyAt (recvCell c j) () N)) := by
  have inj : Function.Injective fun j : Fin 7 => (SemLoc.dma (recvS j) : SemLoc sig) := fun _ _ h => recv_inj h
  unfold Pipeline.launchCred
  rw [bigSep_univ_at _ (SemLoc.reg barS), credit_bar]
  have sub : Finset.univ.map ⟨_, inj⟩ ⊆ (Finset.univ : Finset (SemLoc sig)).erase (.reg barS) := fun sm h => by
    obtain ⟨j, -, rfl⟩ := Finset.mem_map.mp h
    exact Finset.mem_erase.mpr ⟨recv_ne_bar j, Finset.mem_univ _⟩
  refine sep_mono_right ((bigSep_subset sub).trans ?_)
  rw [bigSep_map]
  exact bigSep_mono fun j _ => by
    have := credit_recv c j
    exact Entails.of_eq (congrArg cred this)

/-! ## The start and the end of the kernel on one device -/

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m c)
      ⊢ |={Set.univ}=> iprop(start m c ∗ emp) := by
  unfold start G' atBarrier recvGhost
  rw [bigSep_sep']
  iintro ⟨-, Hlev, Hcr, -, HK, HaB, Hb, HaS, Hs, HaV⟩
  ihave Hc := (creds (F := F) c) $$ Hcr
  icases Hc with ⟨HcB, HcV⟩
  imodintro
  isplitl
  · isplitl [HK]; · iexact HK
    isplitl [Hlev HaB HcB]
    · isplitl [Hlev]; · iexact Hlev
      isplitl [HaB] <;> iassumption
    isplitl [Hb]; · iexact Hb
    isplitl [HaS]; · iexact HaS
    isplitl [Hs]; · iexact Hs
    isplitl [HaV] <;> iassumption
  · iempintro

theorem acc_loc (c : Dev nD) (f : Vec F S1x1024 .f32) :
    (owns (Ix := Unit) (Name := ℕ) (U := UU) (Lvl := ℕ) (c : Thread nD τ) accM fullShare f : sProp 𝕄)
      = (((c : Thread nD τ).loc cc0_scratch0) ↦{fullShare} f) := by
  rw [owns_acc]; unfold accPts; rw [show accM.view.set = Finset.univ from View.set_whole _]

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = between m c 0 from rfl, scopedRest0_eq]
  unfold between; rw [if_neg (by decide)]
  unfold accAt bufAny
  simp only [acc_loc]
  iintro ⟨Hs, -, ⟨%f, Ha⟩, Hb⟩
  isplitl [Hs]; · iexact Hs
  isplitl [Ha]
  · iexists f; isplitr; · (ipureintro; exact fun k _ e => by omega)
    iexact Ha
  iexact Hb

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = between m c cfg0.N from rfl, scopedRest0_eq, ownSems0_eq, unscopedSems0_eq]
  unfold between; rw [if_pos N_0]
  unfold finish bufAny
  simp only [acc_loc]
  iintro ⟨Ha, Hb, HzS, HzV, HzB⟩
  isplitl [HzB]; · iexact HzB
  isplitl [HzS HzV]
  · isplitl [HzS] <;> iassumption
  isplitl [Ha] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      by_cases h : t.val = 8
      · exact Or.inr (if_pos h)
      · exact Or.inl (if_neg h))

theorem share_eq (c : Dev nD) (w : Fin cfg0.W) : (dats m 0 c).share w = fullShare := by unfold Dat.share; split <;> rfl

/-! ## The run -/

/-- Every array holds what the pipeline leaves in it. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with all counters at zero, whatever the float values are, every run of the program ends, with the
    pipeline's results in the arrays and all counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := oweAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllSum

end
-- ==== Proof.Sums.lean ====
/-
# The kernel's sums, over the extended reals

Every number here is an extended real, and a sum does not depend on the order in which it is taken. The total of a device
is, column by column, the sum of its 4096 rows; what a device writes out is the sum of the eight devices' totals.
-/
module

public import proofs.«01_k».proof.Proof.Slots
public import Idealize.ShloMosaic.Lib.Pipeline.ValueKit.Geometry
public import Idealize.ShloMosaic.Lib.Pipeline.ValueKit.Acc
public import Idealize.ShloMosaic.Lib.Pipeline.ValueKit.Point
public import Idealize.ShloMosaic.Lib.Pointwise.Index
public import Idealize.ShloMosaic.PureOps.Ideal.Laws

@[expose] public section

noncomputable section

namespace Cert.AllSum

open Cert.KernelIdeal Cert.KernelIdeal.Gen
open Idealize.ShloMosaic Idealize.ShloMosaic.TcCoe

/-! ## One block -/

/-- The row of column sums of a block of 512 rows. -/
def colSums (v : Vec Ideal S512x1024 .f32) : Vec Ideal S1x1024 .f32 := fun i => ∑ k : Fin 512, v (ix2 k (i 1))

/-- A row of 1024 numbers, as a matrix of one row, is the row. -/
theorem row_of_vec (w : Vec Ideal S1024 .f32) (i : S1x1024.Idx) :
    shapeCast S1x1024 w shapeCasts_S1024_S1x1024 i = w (fun a => i a.succ) :=
  shapeCast_addUnit_apply ![1024] w shapeCasts_S1024_S1x1024 i

/-- What the body computes of a block before it adds is the row of its column sums. -/
theorem block_sums (v : Vec Ideal S512x1024 .f32) : k0_pay1 (F := Ideal) v = colSums v := by
  funext i
  unfold k0_pay1
  dsimp only
  rw [row_of_vec, shapeCast_self]
  refine (Ideal.multiReduction_add_single v _ reduces_S512x1024_S1024 _ _ _).trans (Finset.sum_congr rfl fun k _ => congrArg v (funext fun a => ?_))
  fin_cases a <;> rfl

variable (m : (ℓ : Loc nD τ sig) → Buf (Elt Ideal) ℓ)

/-! ## One device -/

/-- The rows of device `c`. -/
def rows (c : Dev nD) : Vec Ideal S4096x1024 .f32 := m ((c : Thread nD τ).loc main_arg0)

/-- The running total after `n` grid points is the sum of the column sums of the blocks up to that point. -/
theorem accSum_eq (c : Dev nD) (i : S1x1024.Idx) : ∀ (n : ℕ) (h : n < cfg0.N),
    accSum m c n h i = ∑ t : Fin (n + 1), colSums (iblk m c (0 : Fin 2) ⟨t.val, lt_of_lt_of_le t.isLt h⟩) i
  | 0, h => by
    unfold accSum k0_pay2
    rw [shapeCast_self, block_sums, Fin.sum_univ_one]
    rfl
  | n + 1, h => by
    unfold accSum k0_pay3
    rw [shapeCast_self, block_sums, Fin.sum_univ_castSucc]
    show accSum m c n _ i + _ = _
    rw [accSum_eq c i n]
    rfl

/-- Element `(k, j)` of the block at point `t` is row `512 t + k`, column `j`, of the device's rows. -/
theorem block_elt (c : Dev nD) (t : Fin cfg0.N) (k : Fin 512) (j : Fin 1024) (h : t.val * 512 + k.val < 4096) :
    (iblk m c (0 : Fin 2) t : Vec Ideal S512x1024 .f32) (ix2 k j)
      = rows m c (ix2 ⟨t.val * 512 + k.val, h⟩ j) := by
  have hi : ∀ t : Fin cfg0.N, win0_0.index t = ![t.val, 0] := by decide +kernel
  unfold iblk
  unfold rows
  blk_ext [V, hi t]

/-- The total of device `c` is, column by column, the sum of its 4096 rows. -/
theorem total_eq (c : Dev nD) (i : S1x1024.Idx) :
    total m c i = ∑ r : Fin 4096, rows m c (ix2 r (i 1)) := by
  unfold total
  rw [accSum_eq]
  refine (Finset.sum_congr rfl fun t _ => Finset.sum_congr rfl fun k _ => ?_).trans
    (Fin.sum_mul_add_fin (S := 8) (n := 512) (L := 4096) fun r => rows m c (ix2 r (i 1)))
  exact block_elt m c ⟨t.val, _⟩ k (i 1) _

/-! ## All devices -/

/-- Slot `j`, loaded and reshaped to a row, is the total of `src j c`. -/
theorem slot_row (c : Dev nD) (j : Fin 7) :
    shapeCast S1x1024 (bufM.view.readAt (Elt Ideal) (slotR j).toLoadRect (landed m c)) shapeCasts_S1x1x1024_S1x1024 = total m (src j c) := by
  rw [← read_landed]
  rfl

/-- The device itself and the seven whose totals it receives are the eight devices. -/
theorem sum_sources (f : Dev nD → EReal) (c : Dev nD) : f c + ∑ j : Fin 7, f (src j c) = ∑ d : Dev nD, f d := by
  have h : ∀ c : Dev nD, Function.Bijective (Fin.cons c (fun j => src j c) : Fin 8 → Dev nD) := by decide +kernel
  rw [← Function.Bijective.sum_comp (h c) f, Fin.sum_univ_succ]
  rfl

/-- What device `c` writes out is, column by column, the sum of all devices' totals. -/
theorem outSum_eq (c : Dev nD) (i : S1x1024.Idx) : outSum m c i = ∑ d : Dev nD, total m d i := by
  rw [← sum_sources (fun d => total m d i) c]
  unfold outSum k0_pay6 k0_pay5 k0_pay4
  dsimp only
  rw [slot_row m c 0, slot_row m c 1, slot_row m c 2, slot_row m c 3, slot_row m c 4, slot_row m c 5, slot_row m c 6,
    Fin.sum_univ_seven]
  show _ + _ + _ + _ + _ + _ + _ + _ = _
  simp only [add_assoc]

end Cert.AllSum

end
-- ==== Proof.Value.lean ====
/-
# The kernel's result is the reference's

The reference sums the 32768 rows of the whole array, column by column; device `d` of the kernel holds rows `4096 d` to
`4096 d + 4095` of it. So the sum of the eight devices' totals, which every device writes out, is the reference's sum.
-/
module

public import proofs.«01_k».proof.Defs
public import proofs.«01_k».proof.Proof.Sums
public import proofs.«01_k».proof.Proof.Obligation
public import proofs.«01_k».proof.Proof.Gen.ReferenceIdeal
public import Idealize.ShloMosaic.Lib.LayoutAt
public import Idealize.ShloMosaic.Lib.IdealHost

@[expose] public section

noncomputable section

namespace Cert.AllSum

open Cert.KernelIdeal Cert.KernelIdeal.Gen
open Idealize.ShloMosaic Idealize.ShloMosaic.TcCoe

/-- The whole array. -/
abbrev Whole : Type := (⟨2, ![32768, 1024]⟩ : Shape).Idx → EReal

/-- The reference's result at an index: the sum of the whole array's column. -/
def wholeSum (x : Whole) (i : S1x1024.Idx) : EReal := ∑ r : Fin 32768, x (ix2 r (i 1))

/-- Summing over one axis leaves the other. -/
theorem reduces_whole : Cert.ReferenceIdeal.S32768x1024.Reduces [0] Cert.ReferenceIdeal.S1024 := by decide

/-- What the reference computes is the sum of each column of the whole array. -/
theorem reference_sum (x : Whole) (i : S1x1024.Idx) :
    broadcastInDim Cert.ReferenceIdeal.S1x1024 ![1] Cert.ReferenceIdeal.Gen.bcast_S1024_S1x1024_1
      (Host.reduceAdd (F := Ideal) (φ := .f32) x (constant Cert.ReferenceIdeal.S_ .f32 0x00000000#32)
        Cert.ReferenceIdeal.Gen.reducesTo_S32768x1024_S1024_d0 Cert.ReferenceIdeal.Gen.h_S_) i = wholeSum x i := by
  unfold broadcastInDim
  refine (Ideal.hostReduceAdd_single _ reduces_whole x _ _).trans ?_
  have h0 : (constant (F := Ideal) Cert.ReferenceIdeal.S_ .f32 0x00000000#32) (Shape.Idx.first Cert.ReferenceIdeal.Gen.h_S_) = (0 : EReal) :=
    Ideal.ofBits_zero_f32
  rw [h0, zero_add]
  refine Finset.sum_congr rfl fun r _ => congrArg x (funext fun a => Fin.ext ?_)
  fin_cases a <;> rfl

variable (m : (ℓ : Loc nD τ sig) → Buf (Elt Ideal) ℓ)

/-- The devices' blocks put together are the whole array: row `r` of device `d` is row `4096 d + r`. -/
theorem rows_whole (x : Whole) (d : Dev nD) (hx : rows m d = Layout.block ⟨2, ![4096, 1024]⟩ ⟨2, ![32768, 1024]⟩ 0 8 d x)
    (r : Fin 4096) (j : Fin 1024) (h : d.val * 4096 + r.val < 32768) :
    rows m d (ix2 r j) = x (ix2 ⟨d.val * 4096 + r.val, h⟩ j) := by
  rw [hx]
  refine congrArg x (funext fun a => Fin.ext ?_)
  rw [Layout.Tiles.idx_val]
  fin_cases a <;> rfl

/-- What a device writes out is the sum of each column of the whole array. -/
theorem outSum_whole (x : Whole) (hx : ∀ d : Dev nD, rows m d = Layout.block ⟨2, ![4096, 1024]⟩ ⟨2, ![32768, 1024]⟩ 0 8 d x)
    (c : Dev nD) (i : S1x1024.Idx) : outSum m c i = wholeSum x i := by
  rw [outSum_eq]
  refine (Finset.sum_congr rfl fun d _ => (total_eq m d i).trans (Finset.sum_congr rfl fun r _ => ?_)).trans
    (Fin.sum_mul_add_fin (S := 8) (n := 4096) (L := 32768) fun r => x (ix2 r (i 1)))
  exact rows_whole m x d (hx d) r (i 1) _

/-- The result array of device `c` after the run is what it writes out. -/
theorem result_eq (c : Dev nD) : (dats m 0 c).arrAt (1 : Fin 2) cfg0.N = outSum m c := by
  refine (dats m 0 c).arrAt_eq_of_after_last (1 : Fin 2) t0_7 (by decide +kernel) _ fun j => ?_
  refine congrArg (outSum m c) (funext fun a => Fin.ext ?_)
  fin_cases a
  · rfl
  · rfl

end Cert.AllSum

end
-- ==== Proof.lean ====
/-
# The claims

The kernel is proved in the modules under Proof/: Launch.lean states how every run of it ends, Value.lean that what it ends
with is the reference's result. This file reads the five claims off those.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- For any floats, every run of the kernel ends, leaves the argument as it was and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0 :=
  (θ_run Cert.KernelIdeal.defs _ _).mono
    (fun _ h => ⟨fun c => (h.1 c 0).trans ((Cert.AllSum.dats m 0 c).arrAt_in 0 rfl _), h.2⟩)
    (Cert.AllSum.run_main m ρ)

/-- The two kernel programs have one text: they call the same function at the same grid points. -/
theorem calls_same {F : FTy → Type} [FloatOps F] : Cert.Kernel.defs₀ (F := F) = Cert.KernelIdeal.defs₀ (F := F) := by
  unfold Cert.Kernel.defs₀ Cert.KernelIdeal.defs₀
  refine congrArg Defs.onTc ?_
  funext ℓ a
  fin_cases ℓ
  rfl

/-- And so everything that they call is the same. -/
theorem defs_same {F : FTy → Type} [FloatOps F] : Cert.Kernel.defs (F := F) = Cert.KernelIdeal.defs (F := F) := by
  unfold Cert.Kernel.defs
  rw [calls_same]
  rfl

/-- The kernel read at the bit patterns: the run of the one program is the other's. -/
theorem frame_kernel : Cert.quiescent_Kernel := fun m ρ _ => by
  rw [defs_same]
  exact frame_any (F := Bits) m ρ

/-- The kernel read at the extended reals. -/
theorem frame_ideal : Cert.quiescent_KernelIdeal := fun m ρ _ => frame_any (F := Ideal) m ρ

/-- The reference ends, leaves its argument as it was, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device of the kernel ends with the reference's result: each column's sum over the whole
    array, of which device `d` holds rows `4096 d` to `4096 d + 4095`. -/
theorem same_result : Cert.algebraic_KernelIdeal_ReferenceIdeal := fun m ρ m' ρ' _ hx =>
  ⟨Cert.AllSum.wholeSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c 1).trans ((Cert.AllSum.result_eq m c).trans (funext fun i => Cert.AllSum.outSum_whole m _ hx c i)),
        (h.1 c 0).trans ((Cert.AllSum.dats m 0 c).arrAt_in 0 rfl _)⟩)
      (Cert.AllSum.run_main (F := Ideal) m ρ),
    (θ_run Cert.ReferenceIdeal.defs _ _).mono
      (fun _ h => ⟨(h 0).1.trans (funext fun i => Cert.AllSum.reference_sum _ i), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, same_result⟩

end Cert.Proof

end
